-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x100 : Shape := ⟨2, ![16384, 100]⟩
abbrev S6x100 : Shape := ⟨2, ![6, 100]⟩
abbrev S6 : Shape := ⟨1, ![6]⟩
abbrev S100x16384 : Shape := ⟨2, ![100, 16384]⟩
abbrev S1x6 : Shape := ⟨2, ![1, 6]⟩
abbrev S1x16384 : Shape := ⟨2, ![1, 16384]⟩
abbrev S6x16384 : Shape := ⟨2, ![6, 16384]⟩
abbrev S1x1 : Shape := ⟨2, ![1, 1]⟩
abbrev S100x8192 : Shape := ⟨2, ![100, 8192]⟩
abbrev S1x8192 : Shape := ⟨2, ![1, 8192]⟩
abbrev S6x8192 : Shape := ⟨2, ![6, 8192]⟩
abbrev S6x1 : Shape := ⟨2, ![6, 1]⟩
abbrev S8192 : Shape := ⟨1, ![8192]⟩
abbrev S1x6x8192 : Shape := ⟨3, ![1, 6, 8192]⟩
abbrev S1 : Shape := ⟨1, ![1]⟩
abbrev S1x1x1 : Shape := ⟨3, ![1, 1, 1]⟩
abbrev S16384 : Shape := ⟨1, ![16384]⟩
abbrev S16384x6 : Shape := ⟨2, ![16384, 6]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S16384x100, .f32⟩
  | .hbm, ⟨1, _⟩ => ⟨S6x100, .f32⟩
  | .hbm, ⟨2, _⟩ => ⟨S6, .f32⟩
  | .hbm, ⟨3, _⟩ => ⟨S100x16384, .f32⟩
  | .hbm, ⟨4, _⟩ => ⟨S1x6, .f32⟩
  | .hbm, ⟨5, _⟩ => ⟨S1x16384, .f32⟩
  | .hbm, ⟨6, _⟩ => ⟨S6x16384, .f32⟩
  | .hbm, ⟨7, _⟩ => ⟨S1x1, .f32⟩
  | .hbm, ⟨8, _⟩ => ⟨S16384, .f32⟩
  | .hbm, ⟨9, _⟩ => ⟨S16384x6, .f32⟩
  | .hbm, ⟨10, _⟩ => ⟨S_, .f32⟩
  | .local _ .vmem, ⟨0, _⟩ => ⟨S100x8192, .f32⟩
  | .local _ .vmem, ⟨1, _⟩ => ⟨S100x8192, .f32⟩
  | .local _ .vmem, ⟨2, _⟩ => ⟨S6x100, .f32⟩
  | .local _ .vmem, ⟨3, _⟩ => ⟨S1x6, .f32⟩
  | .local _ .vmem, ⟨4, _⟩ => ⟨S1x8192, .f32⟩
  | .local _ .vmem, ⟨5, _⟩ => ⟨S1x8192, .f32⟩
  | .local _ .vmem, ⟨6, _⟩ => ⟨S6x8192, .f32⟩
  | .local _ .vmem, ⟨7, _⟩ => ⟨S6x8192, .f32⟩
  | .local _ .vmem, ⟨8, _⟩ => ⟨S1x1, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S100x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x100 : Shape := ⟨2, ![16384, 100]⟩
abbrev S6x100 : Shape := ⟨2, ![6, 100]⟩
abbrev S6 : Shape := ⟨1, ![6]⟩
abbrev S100x6 : Shape := ⟨2, ![100, 6]⟩
abbrev S16384x6 : Shape := ⟨2, ![16384, 6]⟩
abbrev S1x6 : Shape := ⟨2, ![1, 6]⟩
abbrev S_ : Shape := ⟨0, ![]⟩
abbrev S16384 : Shape := ⟨1, ![16384]⟩
abbrev S16384x1 : Shape := ⟨2, ![16384, 1]⟩
abbrev S1 : Shape := ⟨1, ![1]⟩
abbrev S2 : Shape := ⟨1, ![2]⟩
abbrev S1x1 : Shape := ⟨2, ![1, 1]⟩

abbrev nBuf : Space → Nat
  | .hbm => 339
  | .vmem => 0
  | .smem => 0
  | _ => 0

abbrev hbmTy0_0 (i : Nat) : BufTy := match i % 128 with
  | 0 => ⟨S16384x100, .f32⟩
  | 1 => ⟨S6x100, .f32⟩
  | 2 => ⟨S6, .f32⟩
  | 3 => ⟨S100x6, .f32⟩
  | 4 => ⟨S16384x6, .f32⟩
  | 5 => ⟨S1x6, .f32⟩
  | 6 => ⟨S16384x6, .f32⟩
  | 7 => ⟨S16384x6, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x6, .f32⟩
  | 15 => ⟨S16384x6, .f32⟩
  | 16 => ⟨S16384x6, .f32⟩
  | 17 => ⟨S_, .f32⟩
  | 18 => ⟨S16384, .f32⟩
  | 19 => ⟨S16384x1, .f32⟩
  | 20 => ⟨S16384x6, .f32⟩
  | 21 => ⟨S16384x6, .f32⟩
  | 22 => ⟨S_, .f32⟩
  | 23 => ⟨S16384, .f32⟩
  | 24 => ⟨S_, .f32⟩
  | 25 => ⟨S16384, .f32⟩
  | 26 => ⟨S16384, .f32⟩
  | 27 => ⟨S16384x1, .f32⟩
  | 28 => ⟨S16384x6, .f32⟩
  | 29 => ⟨S16384x6, .f32⟩
  | 30 => ⟨S16384x6, .f32⟩
  | 31 => ⟨S_, .f32⟩
  | 32 => ⟨S16384, .f32⟩
  | 33 => ⟨S16384x1, .f32⟩
  | 34 => ⟨S16384x1, .f32⟩
  | 35 => ⟨S16384x6, .f32⟩
  | 36 => ⟨S16384x6, .f32⟩
  | 37 => ⟨S_, .i32⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S1, .i32⟩
  | 46 => ⟨S2, .i32⟩
  | 47 => ⟨S_, .f32⟩
  | 48 => ⟨S_, .f32⟩
  | 49 => ⟨S_, .f32⟩
  | 50 => ⟨S1x1, .f32⟩
  | 51 => ⟨S1x1, .f32⟩
  | 52 => ⟨S1, .i32⟩
  | 53 => ⟨S_, .i32⟩
  | 54 => ⟨S1, .i32⟩
  | 55 => ⟨S_, .i32⟩
  | 56 => ⟨S16384x6, .i64⟩
  | 57 => ⟨S16384x6, .i64⟩
  | 58 => ⟨S_, .i64⟩
  | 59 => ⟨S16384x6, .i64⟩
  | 60 => ⟨S16384x6, .i64⟩
  | 61 => ⟨S_, .i64⟩
  | 62 => ⟨S16384x6, .i64⟩
  | 63 => ⟨S16384x6, .i64⟩
  | 64 => ⟨S16384x6, .i64⟩
  | 65 => ⟨S_, .i64⟩
  | 66 => ⟨S16384x6, .i64⟩
  | 67 => ⟨S16384x6, .i64⟩
  | 68 => ⟨S16384x6, .i32⟩
  | 69 => ⟨S16384x6, .i32⟩
  | 70 => ⟨S_, .i32⟩
  | 71 => ⟨S_, .i32⟩
  | 72 => ⟨S_, .i32⟩
  | 73 => ⟨S16384x6, .i32⟩
  | 74 => ⟨S16384x6, .i32⟩
  | 75 => ⟨S16384x6, .i32⟩
  | 76 => ⟨S16384x6, .i32⟩
  | 77 => ⟨S16384x6, .i32⟩
  | 78 => ⟨S_, .i32⟩
  | 79 => ⟨S16384x6, .i32⟩
  | 80 => ⟨S16384x6, .i32⟩
  | 81 => ⟨S_, .i32⟩
  | 82 => ⟨S16384x6, .i32⟩
  | 83 => ⟨S16384x6, .i32⟩
  | 84 => ⟨S16384x6, .i32⟩
  | 85 => ⟨S16384x6, .i32⟩
  | 86 => ⟨S16384x6, .i32⟩
  | 87 => ⟨S_, .i32⟩
  | 88 => ⟨S16384x6, .i32⟩
  | 89 => ⟨S16384x6, .i32⟩
  | 90 => ⟨S_, .i32⟩
  | 91 => ⟨S16384x6, .i32⟩
  | 92 => ⟨S16384x6, .i32⟩
  | 93 => ⟨S16384x6, .i32⟩
  | 94 => ⟨S16384x6, .i32⟩
  | 95 => ⟨S16384x6, .i32⟩
  | 96 => ⟨S_, .i32⟩
  | 97 => ⟨S16384x6, .i32⟩
  | 98 => ⟨S16384x6, .i32⟩
  | 99 => ⟨S_, .i32⟩
  | 100 => ⟨S16384x6, .i32⟩
  | 101 => ⟨S16384x6, .i32⟩
  | 102 => ⟨S16384x6, .i32⟩
  | 103 => ⟨S16384x6, .i32⟩
  | 104 => ⟨S16384x6, .i32⟩
  | 105 => ⟨S_, .i32⟩
  | 106 => ⟨S16384x6, .i32⟩
  | 107 => ⟨S16384x6, .i32⟩
  | 108 => ⟨S_, .i32⟩
  | 109 => ⟨S16384x6, .i32⟩
  | 110 => ⟨S16384x6, .i32⟩
  | 111 => ⟨S16384x6, .i32⟩
  | 112 => ⟨S16384x6, .i32⟩
  | 113 => ⟨S16384x6, .i32⟩
  | 114 => ⟨S16384x6, .i32⟩
  | 115 => ⟨S16384x6, .i32⟩
  | 116 => ⟨S16384x6, .i32⟩
  | 117 => ⟨S_, .i32⟩
  | 118 => ⟨S16384x6, .i32⟩
  | 119 => ⟨S16384x6, .i32⟩
  | 120 => ⟨S16384x6, .i32⟩
  | 121 => ⟨S_, .i32⟩
  | 122 => ⟨S16384x6, .i32⟩
  | 123 => ⟨S16384x6, .i32⟩
  | 124 => ⟨S_, .i32⟩
  | 125 => ⟨S16384x6, .i32⟩
  | 126 => ⟨S16384x6, .i32⟩
  | 127 => ⟨S16384x6, .i32⟩
  | _ => ⟨S16384x100, .f32⟩

abbrev hbmTy0_1 (i : Nat) : BufTy := match i % 128 with
  | 0 => ⟨S16384x6, .i32⟩
  | 1 => ⟨S16384x6, .i32⟩
  | 2 => ⟨S_, .i32⟩
  | 3 => ⟨S16384x6, .i32⟩
  | 4 => ⟨S16384x6, .i32⟩
  | 5 => ⟨S_, .i32⟩
  | 6 => ⟨S16384x6, .i32⟩
  | 7 => ⟨S16384x6, .i32⟩
  | 8 => ⟨S16384x6, .i32⟩
  | 9 => ⟨S16384x6, .i32⟩
  | 10 => ⟨S16384x6, .i32⟩
  | 11 => ⟨S_, .i32⟩
  | 12 => ⟨S16384x6, .i32⟩
  | 13 => ⟨S16384x6, .i32⟩
  | 14 => ⟨S_, .i32⟩
  | 15 => ⟨S16384x6, .i32⟩
  | 16 => ⟨S16384x6, .i32⟩
  | 17 => ⟨S16384x6, .i32⟩
  | 18 => ⟨S16384x6, .i32⟩
  | 19 => ⟨S16384x6, .i32⟩
  | 20 => ⟨S_, .i32⟩
  | 21 => ⟨S16384x6, .i32⟩
  | 22 => ⟨S16384x6, .i32⟩
  | 23 => ⟨S_, .i32⟩
  | 24 => ⟨S16384x6, .i32⟩
  | 25 => ⟨S16384x6, .i32⟩
  | 26 => ⟨S16384x6, .i32⟩
  | 27 => ⟨S16384x6, .i32⟩
  | 28 => ⟨S16384x6, .i32⟩
  | 29 => ⟨S16384x6, .i32⟩
  | 30 => ⟨S16384x6, .i32⟩
  | 31 => ⟨S16384x6, .i32⟩
  | 32 => ⟨S_, .i32⟩
  | 33 => ⟨S16384x6, .i32⟩
  | 34 => ⟨S16384x6, .i32⟩
  | 35 => ⟨S16384x6, .i32⟩
  | 36 => ⟨S_, .i32⟩
  | 37 => ⟨S16384x6, .i32⟩
  | 38 => ⟨S16384x6, .i32⟩
  | 39 => ⟨S_, .i32⟩
  | 40 => ⟨S16384x6, .i32⟩
  | 41 => ⟨S16384x6, .i32⟩
  | 42 => ⟨S16384x6, .i32⟩
  | 43 => ⟨S16384x6, .i32⟩
  | 44 => ⟨S16384x6, .i32⟩
  | 45 => ⟨S_, .i32⟩
  | 46 => ⟨S16384x6, .i32⟩
  | 47 => ⟨S16384x6, .i32⟩
  | 48 => ⟨S_, .i32⟩
  | 49 => ⟨S16384x6, .i32⟩
  | 50 => ⟨S16384x6, .i32⟩
  | 51 => ⟨S16384x6, .i32⟩
  | 52 => ⟨S16384x6, .i32⟩
  | 53 => ⟨S16384x6, .i32⟩
  | 54 => ⟨S_, .i32⟩
  | 55 => ⟨S16384x6, .i32⟩
  | 56 => ⟨S16384x6, .i32⟩
  | 57 => ⟨S_, .i32⟩
  | 58 => ⟨S16384x6, .i32⟩
  | 59 => ⟨S16384x6, .i32⟩
  | 60 => ⟨S16384x6, .i32⟩
  | 61 => ⟨S16384x6, .i32⟩
  | 62 => ⟨S16384x6, .i32⟩
  | 63 => ⟨S_, .i32⟩
  | 64 => ⟨S16384x6, .i32⟩
  | 65 => ⟨S16384x6, .i32⟩
  | 66 => ⟨S_, .i32⟩
  | 67 => ⟨S16384x6, .i32⟩
  | 68 => ⟨S16384x6, .i32⟩
  | 69 => ⟨S16384x6, .i32⟩
  | 70 => ⟨S16384x6, .i32⟩
  | 71 => ⟨S16384x6, .i32⟩
  | 72 => ⟨S16384x6, .i32⟩
  | 73 => ⟨S16384x6, .i32⟩
  | 74 => ⟨S16384x6, .i32⟩
  | 75 => ⟨S_, .i32⟩
  | 76 => ⟨S16384x6, .i32⟩
  | 77 => ⟨S16384x6, .i32⟩
  | 78 => ⟨S16384x6, .i32⟩
  | 79 => ⟨S_, .i32⟩
  | 80 => ⟨S16384x6, .i32⟩
  | 81 => ⟨S16384x6, .i32⟩
  | 82 => ⟨S_, .i32⟩
  | 83 => ⟨S16384x6, .i32⟩
  | 84 => ⟨S16384x6, .i32⟩
  | 85 => ⟨S16384x6, .i32⟩
  | 86 => ⟨S16384x6, .i32⟩
  | 87 => ⟨S16384x6, .i32⟩
  | 88 => ⟨S_, .i32⟩
  | 89 => ⟨S16384x6, .i32⟩
  | 90 => ⟨S16384x6, .i32⟩
  | 91 => ⟨S_, .i32⟩
  | 92 => ⟨S16384x6, .i32⟩
  | 93 => ⟨S16384x6, .i32⟩
  | 94 => ⟨S16384x6, .i32⟩
  | 95 => ⟨S16384x6, .i32⟩
  | 96 => ⟨S16384x6, .i32⟩
  | 97 => ⟨S_, .i32⟩
  | 98 => ⟨S16384x6, .i32⟩
  | 99 => ⟨S16384x6, .i32⟩
  | 100 => ⟨S_, .i32⟩
  | 101 => ⟨S16384x6, .i32⟩
  | 102 => ⟨S16384x6, .i32⟩
  | 103 => ⟨S16384x6, .i32⟩
  | 104 => ⟨S16384x6, .i32⟩
  | 105 => ⟨S16384x6, .i32⟩
  | 106 => ⟨S_, .i32⟩
  | 107 => ⟨S16384x6, .i32⟩
  | 108 => ⟨S16384x6, .i32⟩
  | 109 => ⟨S_, .i32⟩
  | 110 => ⟨S16384x6, .i32⟩
  | 111 => ⟨S16384x6, .i32⟩
  | 112 => ⟨S16384x6, .i32⟩
  | 113 => ⟨S16384x6, .i32⟩
  | 114 => ⟨S16384x6, .i32⟩
  | 115 => ⟨S16384x6, .i32⟩
  | 116 => ⟨S16384x6, .i32⟩
  | 117 => ⟨S16384x6, .i32⟩
  | 118 => ⟨S_, .i32⟩
  | 119 => ⟨S16384x6, .i32⟩
  | 120 => ⟨S16384x6, .i32⟩
  | 121 => ⟨S16384x6, .i32⟩
  | 122 => ⟨S_, .i32⟩
  | 123 => ⟨S16384x6, .i32⟩
  | 124 => ⟨S16384x6, .i32⟩
  | 125 => ⟨S_, .i32⟩
  | 126 => ⟨S16384x6, .i32⟩
  | 127 => ⟨S16384x6, .i32⟩
  | _ => ⟨S16384x100, .f32⟩

abbrev hbmTy0_2 (i : Nat) : BufTy := match i % 128 with
  | 0 => ⟨S16384x6, .i32⟩
  | 1 => ⟨S16384x6, .i32⟩
  | 2 => ⟨S16384x6, .i32⟩
  | 3 => ⟨S_, .i32⟩
  | 4 => ⟨S16384x6, .i32⟩
  | 5 => ⟨S16384x6, .i32⟩
  | 6 => ⟨S_, .i32⟩
  | 7 => ⟨S16384x6, .i32⟩
  | 8 => ⟨S16384x6, .i32⟩
  | 9 => ⟨S16384x6, .i32⟩
  | 10 => ⟨S16384x6, .i32⟩
  | 11 => ⟨S16384x6, .i32⟩
  | 12 => ⟨S_, .i32⟩
  | 13 => ⟨S16384x6, .i32⟩
  | 14 => ⟨S16384x6, .i32⟩
  | 15 => ⟨S_, .i32⟩
  | 16 => ⟨S16384x6, .i32⟩
  | 17 => ⟨S16384x6, .i32⟩
  | 18 => ⟨S16384x6, .i32⟩
  | 19 => ⟨S16384x6, .i32⟩
  | 20 => ⟨S16384x6, .i32⟩
  | 21 => ⟨S_, .i32⟩
  | 22 => ⟨S16384x6, .i32⟩
  | 23 => ⟨S16384x6, .i32⟩
  | 24 => ⟨S_, .i32⟩
  | 25 => ⟨S16384x6, .i32⟩
  | 26 => ⟨S16384x6, .i32⟩
  | 27 => ⟨S16384x6, .i32⟩
  | 28 => ⟨S16384x6, .i32⟩
  | 29 => ⟨S16384x6, .i32⟩
  | 30 => ⟨S16384x6, .i32⟩
  | 31 => ⟨S16384x6, .i32⟩
  | 32 => ⟨S16384x6, .i32⟩
  | 33 => ⟨S_, .i32⟩
  | 34 => ⟨S16384x6, .i32⟩
  | 35 => ⟨S16384x6, .i32⟩
  | 36 => ⟨S16384x6, .i32⟩
  | 37 => ⟨S_, .i32⟩
  | 38 => ⟨S16384x6, .i32⟩
  | 39 => ⟨S16384x6, .i32⟩
  | 40 => ⟨S_, .i32⟩
  | 41 => ⟨S16384x6, .i32⟩
  | 42 => ⟨S16384x6, .i32⟩
  | 43 => ⟨S16384x6, .f32⟩
  | 44 => ⟨S_, .f32⟩
  | 45 => ⟨S16384x6, .f32⟩
  | 46 => ⟨S16384x6, .f32⟩
  | 47 => ⟨S1x1, .f32⟩
  | 48 => ⟨S16384x6, .f32⟩
  | 49 => ⟨S16384x6, .f32⟩
  | 50 => ⟨S16384x6, .f32⟩
  | 51 => ⟨S16384x6, .f32⟩
  | 52 => ⟨S16384x6, .f32⟩
  | 53 => ⟨S16384x6, .f32⟩
  | 54 => ⟨S16384x6, .f32⟩
  | 55 => ⟨S16384x6, .f32⟩
  | 56 => ⟨S16384x6, .f32⟩
  | 57 => ⟨S16384x6, .f32⟩
  | 58 => ⟨S16384x6, .f32⟩
  | 59 => ⟨S16384x6, .i32⟩
  | 60 => ⟨S_, .f32⟩
  | 61 => ⟨S_, .i32⟩
  | 62 => ⟨S16384, .f32⟩
  | 63 => ⟨S16384, .i32⟩
  | 64 => ⟨S16384x1, .i32⟩
  | 65 => ⟨S1x6, .i32⟩
  | 66 => ⟨S16384x6, .i32⟩
  | 67 => ⟨S16384x6, .i32⟩
  | 68 => ⟨S16384x6, .i1⟩
  | 69 => ⟨S16384x6, .f32⟩
  | 70 => ⟨S16384x6, .f32⟩
  | 71 => ⟨S_, .f32⟩
  | 72 => ⟨S16384, .f32⟩
  | 73 => ⟨S_, .f32⟩
  | 74 => ⟨S16384x6, .f32⟩
  | 75 => ⟨S16384x6, .f32⟩
  | 76 => ⟨S16384x6, .f32⟩
  | 77 => ⟨S16384x6, .f32⟩
  | 78 => ⟨S16384x6, .f32⟩
  | 79 => ⟨S_, .f32⟩
  | 80 => ⟨S16384, .f32⟩
  | 81 => ⟨S_, .f32⟩
  | 82 => ⟨S_, .f32⟩
  | _ => ⟨S16384x100, .f32⟩

abbrev hbmTy (i : Nat) : BufTy := match i / 128 with
  | 0 => hbmTy0_0 i
  | 1 => hbmTy0_1 i
  | 2 => hbmTy0_2 i
  | _ => ⟨S16384x100, .f32⟩

abbrev bufTy : (tb : Table) → Fin (tcTables nBuf tb) → BufTy
  | .hbm, ⟨i, _⟩ => hbmTy i
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v16 : Ref sig .tc := ⟨.hbm, 36, rfl⟩
abbrev main_c : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_cst : Ref sig .tc := ⟨.hbm, 47, rfl⟩
abbrev main_call1_cst_0 : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_v2 : Ref sig .tc := ⟨.hbm, 51, rfl⟩
abbrev main_call1_call0_v3 : Ref sig .tc := ⟨.hbm, 52, rfl⟩
abbrev main_call1_call0_v4 : Ref sig .tc := ⟨.hbm, 53, rfl⟩
abbrev main_call1_call0_v5 : Ref sig .tc := ⟨.hbm, 54, rfl⟩
abbrev main_call1_call0_v6 : Ref sig .tc := ⟨.hbm, 55, rfl⟩
abbrev main_call1_call0_v7 : Ref sig .tc := ⟨.hbm, 56, rfl⟩
abbrev main_call1_call0_v8 : Ref sig .tc := ⟨.hbm, 57, rfl⟩
abbrev main_call1_call0_c : Ref sig .tc := ⟨.hbm, 58, rfl⟩
abbrev main_call1_call0_v9 : Ref sig .tc := ⟨.hbm, 59, rfl⟩
abbrev main_call1_call0_v10 : Ref sig .tc := ⟨.hbm, 60, rfl⟩
abbrev main_call1_call0_c_0 : Ref sig .tc := ⟨.hbm, 61, rfl⟩
abbrev main_call1_call0_v11 : Ref sig .tc := ⟨.hbm, 62, rfl⟩
abbrev main_call1_call0_v12 : Ref sig .tc := ⟨.hbm, 63, rfl⟩
abbrev main_call1_call0_v13 : Ref sig .tc := ⟨.hbm, 64, rfl⟩
abbrev main_call1_call0_c_1 : Ref sig .tc := ⟨.hbm, 65, rfl⟩
abbrev main_call1_call0_v14 : Ref sig .tc := ⟨.hbm, 66, rfl⟩
abbrev main_call1_call0_v15 : Ref sig .tc := ⟨.hbm, 67, rfl⟩
abbrev main_call1_call0_v16 : Ref sig .tc := ⟨.hbm, 68, rfl⟩
abbrev main_call1_call0_v17 : Ref sig .tc := ⟨.hbm, 69, rfl⟩
abbrev main_call1_call0_call0_v0 : Ref sig .tc := ⟨.hbm, 70, rfl⟩
abbrev main_call1_call0_call0_c : Ref sig .tc := ⟨.hbm, 71, rfl⟩
abbrev main_call1_call0_call0_v1 : Ref sig .tc := ⟨.hbm, 72, rfl⟩
abbrev main_call1_call0_call0_v2 : Ref sig .tc := ⟨.hbm, 73, rfl⟩
abbrev main_call1_call0_call0_v3 : Ref sig .tc := ⟨.hbm, 74, rfl⟩
abbrev main_call1_call0_call0_v4 : Ref sig .tc := ⟨.hbm, 75, rfl⟩
abbrev main_call1_call0_call0_v5 : Ref sig .tc := ⟨.hbm, 76, rfl⟩
abbrev main_call1_call0_call0_v6 : Ref sig .tc := ⟨.hbm, 77, rfl⟩
abbrev main_call1_call0_call0_c_0 : Ref sig .tc := ⟨.hbm, 78, rfl⟩
abbrev main_call1_call0_call0_v7 : Ref sig .tc := ⟨.hbm, 79, rfl⟩
abbrev main_call1_call0_call0_v8 : Ref sig .tc := ⟨.hbm, 80, rfl⟩
abbrev main_call1_call0_call0_c_1 : Ref sig .tc := ⟨.hbm, 81, rfl⟩
abbrev main_call1_call0_call0_v9 : Ref sig .tc := ⟨.hbm, 82, rfl⟩
abbrev main_call1_call0_call0_v10 : Ref sig .tc := ⟨.hbm, 83, rfl⟩
abbrev main_call1_call0_call0_v11 : Ref sig .tc := ⟨.hbm, 84, rfl⟩
abbrev main_call1_call0_call0_v12 : Ref sig .tc := ⟨.hbm, 85, rfl⟩
abbrev main_call1_call0_call0_v13 : Ref sig .tc := ⟨.hbm, 86, rfl⟩
abbrev main_call1_call0_call0_c_2 : Ref sig .tc := ⟨.hbm, 87, rfl⟩
abbrev main_call1_call0_call0_v14 : Ref sig .tc := ⟨.hbm, 88, rfl⟩
abbrev main_call1_call0_call0_v15 : Ref sig .tc := ⟨.hbm, 89, rfl⟩
abbrev main_call1_call0_call0_c_3 : Ref sig .tc := ⟨.hbm, 90, rfl⟩
abbrev main_call1_call0_call0_v16 : Ref sig .tc := ⟨.hbm, 91, rfl⟩
abbrev main_call1_call0_call0_v17 : Ref sig .tc := ⟨.hbm, 92, rfl⟩
abbrev main_call1_call0_call0_v18 : Ref sig .tc := ⟨.hbm, 93, rfl⟩
abbrev main_call1_call0_call0_v19 : Ref sig .tc := ⟨.hbm, 94, rfl⟩
abbrev main_call1_call0_call0_v20 : Ref sig .tc := ⟨.hbm, 95, rfl⟩
abbrev main_call1_call0_call0_c_4 : Ref sig .tc := ⟨.hbm, 96, rfl⟩
abbrev main_call1_call0_call0_v21 : Ref sig .tc := ⟨.hbm, 97, rfl⟩
abbrev main_call1_call0_call0_v22 : Ref sig .tc := ⟨.hbm, 98, rfl⟩
abbrev main_call1_call0_call0_c_5 : Ref sig .tc := ⟨.hbm, 99, rfl⟩
abbrev main_call1_call0_call0_v23 : Ref sig .tc := ⟨.hbm, 100, rfl⟩
abbrev main_call1_call0_call0_v24 : Ref sig .tc := ⟨.hbm, 101, rfl⟩
abbrev main_call1_call0_call0_v25 : Ref sig .tc := ⟨.hbm, 102, rfl⟩
abbrev main_call1_call0_call0_v26 : Ref sig .tc := ⟨.hbm, 103, rfl⟩
abbrev main_call1_call0_call0_v27 : Ref sig .tc := ⟨.hbm, 104, rfl⟩
abbrev main_call1_call0_call0_c_6 : Ref sig .tc := ⟨.hbm, 105, rfl⟩
abbrev main_call1_call0_call0_v28 : Ref sig .tc := ⟨.hbm, 106, rfl⟩
abbrev main_call1_call0_call0_v29 : Ref sig .tc := ⟨.hbm, 107, rfl⟩
abbrev main_call1_call0_call0_c_7 : Ref sig .tc := ⟨.hbm, 108, rfl⟩
abbrev main_call1_call0_call0_v30 : Ref sig .tc := ⟨.hbm, 109, rfl⟩
abbrev main_call1_call0_call0_v31 : Ref sig .tc := ⟨.hbm, 110, rfl⟩
abbrev main_call1_call0_call0_v32 : Ref sig .tc := ⟨.hbm, 111, rfl⟩
abbrev main_call1_call0_call0_v33 : Ref sig .tc := ⟨.hbm, 112, rfl⟩
abbrev main_call1_call0_call0_v34 : Ref sig .tc := ⟨.hbm, 113, rfl⟩
abbrev main_call1_call0_call0_v35 : Ref sig .tc := ⟨.hbm, 114, rfl⟩
abbrev main_call1_call0_call0_v36 : Ref sig .tc := ⟨.hbm, 115, rfl⟩
abbrev main_call1_call0_call0_v37 : Ref sig .tc := ⟨.hbm, 116, rfl⟩
abbrev main_call1_call0_call0_c_8 : Ref sig .tc := ⟨.hbm, 117, rfl⟩
abbrev main_call1_call0_call0_v38 : Ref sig .tc := ⟨.hbm, 118, rfl⟩
abbrev main_call1_call0_call0_v39 : Ref sig .tc := ⟨.hbm, 119, rfl⟩
abbrev main_call1_call0_call0_v40 : Ref sig .tc := ⟨.hbm, 120, rfl⟩
abbrev main_call1_call0_call0_c_9 : Ref sig .tc := ⟨.hbm, 121, rfl⟩
abbrev main_call1_call0_call0_v41 : Ref sig .tc := ⟨.hbm, 122, rfl⟩
abbrev main_call1_call0_call0_v42 : Ref sig .tc := ⟨.hbm, 123, rfl⟩
abbrev main_call1_call0_call0_c_10 : Ref sig .tc := ⟨.hbm, 124, rfl⟩
abbrev main_call1_call0_call0_v43 : Ref sig .tc := ⟨.hbm, 125, rfl⟩
abbrev main_call1_call0_call0_v44 : Ref sig .tc := ⟨.hbm, 126, rfl⟩
abbrev main_call1_call0_call0_v45 : Ref sig .tc := ⟨.hbm, 127, rfl⟩
abbrev main_call1_call0_call0_v46 : Ref sig .tc := ⟨.hbm, 128, rfl⟩
abbrev main_call1_call0_call0_v47 : Ref sig .tc := ⟨.hbm, 129, rfl⟩
abbrev main_call1_call0_call0_c_11 : Ref sig .tc := ⟨.hbm, 130, rfl⟩
abbrev main_call1_call0_call0_v48 : Ref sig .tc := ⟨.hbm, 131, rfl⟩
abbrev main_call1_call0_call0_v49 : Ref sig .tc := ⟨.hbm, 132, rfl⟩
abbrev main_call1_call0_call0_c_12 : Ref sig .tc := ⟨.hbm, 133, rfl⟩
abbrev main_call1_call0_call0_v50 : Ref sig .tc := ⟨.hbm, 134, rfl⟩
abbrev main_call1_call0_call0_v51 : Ref sig .tc := ⟨.hbm, 135, rfl⟩
abbrev main_call1_call0_call0_v52 : Ref sig .tc := ⟨.hbm, 136, rfl⟩
abbrev main_call1_call0_call0_v53 : Ref sig .tc := ⟨.hbm, 137, rfl⟩
abbrev main_call1_call0_call0_v54 : Ref sig .tc := ⟨.hbm, 138, rfl⟩
abbrev main_call1_call0_call0_c_13 : Ref sig .tc := ⟨.hbm, 139, rfl⟩
abbrev main_call1_call0_call0_v55 : Ref sig .tc := ⟨.hbm, 140, rfl⟩
abbrev main_call1_call0_call0_v56 : Ref sig .tc := ⟨.hbm, 141, rfl⟩
abbrev main_call1_call0_call0_c_14 : Ref sig .tc := ⟨.hbm, 142, rfl⟩
abbrev main_call1_call0_call0_v57 : Ref sig .tc := ⟨.hbm, 143, rfl⟩
abbrev main_call1_call0_call0_v58 : Ref sig .tc := ⟨.hbm, 144, rfl⟩
abbrev main_call1_call0_call0_v59 : Ref sig .tc := ⟨.hbm, 145, rfl⟩
abbrev main_call1_call0_call0_v60 : Ref sig .tc := ⟨.hbm, 146, rfl⟩
abbrev main_call1_call0_call0_v61 : Ref sig .tc := ⟨.hbm, 147, rfl⟩
abbrev main_call1_call0_call0_c_15 : Ref sig .tc := ⟨.hbm, 148, rfl⟩
abbrev main_call1_call0_call0_v62 : Ref sig .tc := ⟨.hbm, 149, rfl⟩
abbrev main_call1_call0_call0_v63 : Ref sig .tc := ⟨.hbm, 150, rfl⟩
abbrev main_call1_call0_call0_c_16 : Ref sig .tc := ⟨.hbm, 151, rfl⟩
abbrev main_call1_call0_call0_v64 : Ref sig .tc := ⟨.hbm, 152, rfl⟩
abbrev main_call1_call0_call0_v65 : Ref sig .tc := ⟨.hbm, 153, rfl⟩
abbrev main_call1_call0_call0_v66 : Ref sig .tc := ⟨.hbm, 154, rfl⟩
abbrev main_call1_call0_call0_v67 : Ref sig .tc := ⟨.hbm, 155, rfl⟩
abbrev main_call1_call0_call0_v68 : Ref sig .tc := ⟨.hbm, 156, rfl⟩
abbrev main_call1_call0_call0_v69 : Ref sig .tc := ⟨.hbm, 157, rfl⟩
abbrev main_call1_call0_call0_v70 : Ref sig .tc := ⟨.hbm, 158, rfl⟩
abbrev main_call1_call0_call0_v71 : Ref sig .tc := ⟨.hbm, 159, rfl⟩
abbrev main_call1_call0_call0_c_17 : Ref sig .tc := ⟨.hbm, 160, rfl⟩
abbrev main_call1_call0_call0_v72 : Ref sig .tc := ⟨.hbm, 161, rfl⟩
abbrev main_call1_call0_call0_v73 : Ref sig .tc := ⟨.hbm, 162, rfl⟩
abbrev main_call1_call0_call0_v74 : Ref sig .tc := ⟨.hbm, 163, rfl⟩
abbrev main_call1_call0_call0_c_18 : Ref sig .tc := ⟨.hbm, 164, rfl⟩
abbrev main_call1_call0_call0_v75 : Ref sig .tc := ⟨.hbm, 165, rfl⟩
abbrev main_call1_call0_call0_v76 : Ref sig .tc := ⟨.hbm, 166, rfl⟩
abbrev main_call1_call0_call0_c_19 : Ref sig .tc := ⟨.hbm, 167, rfl⟩
abbrev main_call1_call0_call0_v77 : Ref sig .tc := ⟨.hbm, 168, rfl⟩
abbrev main_call1_call0_call0_v78 : Ref sig .tc := ⟨.hbm, 169, rfl⟩
abbrev main_call1_call0_call0_v79 : Ref sig .tc := ⟨.hbm, 170, rfl⟩
abbrev main_call1_call0_call0_v80 : Ref sig .tc := ⟨.hbm, 171, rfl⟩
abbrev main_call1_call0_call0_v81 : Ref sig .tc := ⟨.hbm, 172, rfl⟩
abbrev main_call1_call0_call0_c_20 : Ref sig .tc := ⟨.hbm, 173, rfl⟩
abbrev main_call1_call0_call0_v82 : Ref sig .tc := ⟨.hbm, 174, rfl⟩
abbrev main_call1_call0_call0_v83 : Ref sig .tc := ⟨.hbm, 175, rfl⟩
abbrev main_call1_call0_call0_c_21 : Ref sig .tc := ⟨.hbm, 176, rfl⟩
abbrev main_call1_call0_call0_v84 : Ref sig .tc := ⟨.hbm, 177, rfl⟩
abbrev main_call1_call0_call0_v85 : Ref sig .tc := ⟨.hbm, 178, rfl⟩
abbrev main_call1_call0_call0_v86 : Ref sig .tc := ⟨.hbm, 179, rfl⟩
abbrev main_call1_call0_call0_v87 : Ref sig .tc := ⟨.hbm, 180, rfl⟩
abbrev main_call1_call0_call0_v88 : Ref sig .tc := ⟨.hbm, 181, rfl⟩
abbrev main_call1_call0_call0_c_22 : Ref sig .tc := ⟨.hbm, 182, rfl⟩
abbrev main_call1_call0_call0_v89 : Ref sig .tc := ⟨.hbm, 183, rfl⟩
abbrev main_call1_call0_call0_v90 : Ref sig .tc := ⟨.hbm, 184, rfl⟩
abbrev main_call1_call0_call0_c_23 : Ref sig .tc := ⟨.hbm, 185, rfl⟩
abbrev main_call1_call0_call0_v91 : Ref sig .tc := ⟨.hbm, 186, rfl⟩
abbrev main_call1_call0_call0_v92 : Ref sig .tc := ⟨.hbm, 187, rfl⟩
abbrev main_call1_call0_call0_v93 : Ref sig .tc := ⟨.hbm, 188, rfl⟩
abbrev main_call1_call0_call0_v94 : Ref sig .tc := ⟨.hbm, 189, rfl⟩
abbrev main_call1_call0_call0_v95 : Ref sig .tc := ⟨.hbm, 190, rfl⟩
abbrev main_call1_call0_call0_c_24 : Ref sig .tc := ⟨.hbm, 191, rfl⟩
abbrev main_call1_call0_call0_v96 : Ref sig .tc := ⟨.hbm, 192, rfl⟩
abbrev main_call1_call0_call0_v97 : Ref sig .tc := ⟨.hbm, 193, rfl⟩
abbrev main_call1_call0_call0_c_25 : Ref sig .tc := ⟨.hbm, 194, rfl⟩
abbrev main_call1_call0_call0_v98 : Ref sig .tc := ⟨.hbm, 195, rfl⟩
abbrev main_call1_call0_call0_v99 : Ref sig .tc := ⟨.hbm, 196, rfl⟩
abbrev main_call1_call0_call0_v100 : Ref sig .tc := ⟨.hbm, 197, rfl⟩
abbrev main_call1_call0_call0_v101 : Ref sig .tc := ⟨.hbm, 198, rfl⟩
abbrev main_call1_call0_call0_v102 : Ref sig .tc := ⟨.hbm, 199, rfl⟩
abbrev main_call1_call0_call0_v103 : Ref sig .tc := ⟨.hbm, 200, rfl⟩
abbrev main_call1_call0_call0_v104 : Ref sig .tc := ⟨.hbm, 201, rfl⟩
abbrev main_call1_call0_call0_v105 : Ref sig .tc := ⟨.hbm, 202, rfl⟩
abbrev main_call1_call0_call0_c_26 : Ref sig .tc := ⟨.hbm, 203, rfl⟩
abbrev main_call1_call0_call0_v106 : Ref sig .tc := ⟨.hbm, 204, rfl⟩
abbrev main_call1_call0_call0_v107 : Ref sig .tc := ⟨.hbm, 205, rfl⟩
abbrev main_call1_call0_call0_v108 : Ref sig .tc := ⟨.hbm, 206, rfl⟩
abbrev main_call1_call0_call0_c_27 : Ref sig .tc := ⟨.hbm, 207, rfl⟩
abbrev main_call1_call0_call0_v109 : Ref sig .tc := ⟨.hbm, 208, rfl⟩
abbrev main_call1_call0_call0_v110 : Ref sig .tc := ⟨.hbm, 209, rfl⟩
abbrev main_call1_call0_call0_c_28 : Ref sig .tc := ⟨.hbm, 210, rfl⟩
abbrev main_call1_call0_call0_v111 : Ref sig .tc := ⟨.hbm, 211, rfl⟩
abbrev main_call1_call0_call0_v112 : Ref sig .tc := ⟨.hbm, 212, rfl⟩
abbrev main_call1_call0_call0_v113 : Ref sig .tc := ⟨.hbm, 213, rfl⟩
abbrev main_call1_call0_call0_v114 : Ref sig .tc := ⟨.hbm, 214, rfl⟩
abbrev main_call1_call0_call0_v115 : Ref sig .tc := ⟨.hbm, 215, rfl⟩
abbrev main_call1_call0_call0_c_29 : Ref sig .tc := ⟨.hbm, 216, rfl⟩
abbrev main_call1_call0_call0_v116 : Ref sig .tc := ⟨.hbm, 217, rfl⟩
abbrev main_call1_call0_call0_v117 : Ref sig .tc := ⟨.hbm, 218, rfl⟩
abbrev main_call1_call0_call0_c_30 : Ref sig .tc := ⟨.hbm, 219, rfl⟩
abbrev main_call1_call0_call0_v118 : Ref sig .tc := ⟨.hbm, 220, rfl⟩
abbrev main_call1_call0_call0_v119 : Ref sig .tc := ⟨.hbm, 221, rfl⟩
abbrev main_call1_call0_call0_v120 : Ref sig .tc := ⟨.hbm, 222, rfl⟩
abbrev main_call1_call0_call0_v121 : Ref sig .tc := ⟨.hbm, 223, rfl⟩
abbrev main_call1_call0_call0_v122 : Ref sig .tc := ⟨.hbm, 224, rfl⟩
abbrev main_call1_call0_call0_c_31 : Ref sig .tc := ⟨.hbm, 225, rfl⟩
abbrev main_call1_call0_call0_v123 : Ref sig .tc := ⟨.hbm, 226, rfl⟩
abbrev main_call1_call0_call0_v124 : Ref sig .tc := ⟨.hbm, 227, rfl⟩
abbrev main_call1_call0_call0_c_32 : Ref sig .tc := ⟨.hbm, 228, rfl⟩
abbrev main_call1_call0_call0_v125 : Ref sig .tc := ⟨.hbm, 229, rfl⟩
abbrev main_call1_call0_call0_v126 : Ref sig .tc := ⟨.hbm, 230, rfl⟩
abbrev main_call1_call0_call0_v127 : Ref sig .tc := ⟨.hbm, 231, rfl⟩
abbrev main_call1_call0_call0_v128 : Ref sig .tc := ⟨.hbm, 232, rfl⟩
abbrev main_call1_call0_call0_v129 : Ref sig .tc := ⟨.hbm, 233, rfl⟩
abbrev main_call1_call0_call0_c_33 : Ref sig .tc := ⟨.hbm, 234, rfl⟩
abbrev main_call1_call0_call0_v130 : Ref sig .tc := ⟨.hbm, 235, rfl⟩
abbrev main_call1_call0_call0_v131 : Ref sig .tc := ⟨.hbm, 236, rfl⟩
abbrev main_call1_call0_call0_c_34 : Ref sig .tc := ⟨.hbm, 237, rfl⟩
abbrev main_call1_call0_call0_v132 : Ref sig .tc := ⟨.hbm, 238, rfl⟩
abbrev main_call1_call0_call0_v133 : Ref sig .tc := ⟨.hbm, 239, rfl⟩
abbrev main_call1_call0_call0_v134 : Ref sig .tc := ⟨.hbm, 240, rfl⟩
abbrev main_call1_call0_call0_v135 : Ref sig .tc := ⟨.hbm, 241, rfl⟩
abbrev main_call1_call0_call0_v136 : Ref sig .tc := ⟨.hbm, 242, rfl⟩
abbrev main_call1_call0_call0_v137 : Ref sig .tc := ⟨.hbm, 243, rfl⟩
abbrev main_call1_call0_call0_v138 : Ref sig .tc := ⟨.hbm, 244, rfl⟩
abbrev main_call1_call0_call0_v139 : Ref sig .tc := ⟨.hbm, 245, rfl⟩
abbrev main_call1_call0_call0_c_35 : Ref sig .tc := ⟨.hbm, 246, rfl⟩
abbrev main_call1_call0_call0_v140 : Ref sig .tc := ⟨.hbm, 247, rfl⟩
abbrev main_call1_call0_call0_v141 : Ref sig .tc := ⟨.hbm, 248, rfl⟩
abbrev main_call1_call0_call0_v142 : Ref sig .tc := ⟨.hbm, 249, rfl⟩
abbrev main_call1_call0_call0_c_36 : Ref sig .tc := ⟨.hbm, 250, rfl⟩
abbrev main_call1_call0_call0_v143 : Ref sig .tc := ⟨.hbm, 251, rfl⟩
abbrev main_call1_call0_call0_v144 : Ref sig .tc := ⟨.hbm, 252, rfl⟩
abbrev main_call1_call0_call0_c_37 : Ref sig .tc := ⟨.hbm, 253, rfl⟩
abbrev main_call1_call0_call0_v145 : Ref sig .tc := ⟨.hbm, 254, rfl⟩
abbrev main_call1_call0_call0_v146 : Ref sig .tc := ⟨.hbm, 255, rfl⟩
abbrev main_call1_call0_call0_v147 : Ref sig .tc := ⟨.hbm, 256, rfl⟩
abbrev main_call1_call0_call0_v148 : Ref sig .tc := ⟨.hbm, 257, rfl⟩
abbrev main_call1_call0_call0_v149 : Ref sig .tc := ⟨.hbm, 258, rfl⟩
abbrev main_call1_call0_call0_c_38 : Ref sig .tc := ⟨.hbm, 259, rfl⟩
abbrev main_call1_call0_call0_v150 : Ref sig .tc := ⟨.hbm, 260, rfl⟩
abbrev main_call1_call0_call0_v151 : Ref sig .tc := ⟨.hbm, 261, rfl⟩
abbrev main_call1_call0_call0_c_39 : Ref sig .tc := ⟨.hbm, 262, rfl⟩
abbrev main_call1_call0_call0_v152 : Ref sig .tc := ⟨.hbm, 263, rfl⟩
abbrev main_call1_call0_call0_v153 : Ref sig .tc := ⟨.hbm, 264, rfl⟩
abbrev main_call1_call0_call0_v154 : Ref sig .tc := ⟨.hbm, 265, rfl⟩
abbrev main_call1_call0_call0_v155 : Ref sig .tc := ⟨.hbm, 266, rfl⟩
abbrev main_call1_call0_call0_v156 : Ref sig .tc := ⟨.hbm, 267, rfl⟩
abbrev main_call1_call0_call0_c_40 : Ref sig .tc := ⟨.hbm, 268, rfl⟩
abbrev main_call1_call0_call0_v157 : Ref sig .tc := ⟨.hbm, 269, rfl⟩
abbrev main_call1_call0_call0_v158 : Ref sig .tc := ⟨.hbm, 270, rfl⟩
abbrev main_call1_call0_call0_c_41 : Ref sig .tc := ⟨.hbm, 271, rfl⟩
abbrev main_call1_call0_call0_v159 : Ref sig .tc := ⟨.hbm, 272, rfl⟩
abbrev main_call1_call0_call0_v160 : Ref sig .tc := ⟨.hbm, 273, rfl⟩
abbrev main_call1_call0_call0_v161 : Ref sig .tc := ⟨.hbm, 274, rfl⟩
abbrev main_call1_call0_call0_v162 : Ref sig .tc := ⟨.hbm, 275, rfl⟩
abbrev main_call1_call0_call0_v163 : Ref sig .tc := ⟨.hbm, 276, rfl⟩
abbrev main_call1_call0_call0_c_42 : Ref sig .tc := ⟨.hbm, 277, rfl⟩
abbrev main_call1_call0_call0_v164 : Ref sig .tc := ⟨.hbm, 278, rfl⟩
abbrev main_call1_call0_call0_v165 : Ref sig .tc := ⟨.hbm, 279, rfl⟩
abbrev main_call1_call0_call0_c_43 : Ref sig .tc := ⟨.hbm, 280, rfl⟩
abbrev main_call1_call0_call0_v166 : Ref sig .tc := ⟨.hbm, 281, rfl⟩
abbrev main_call1_call0_call0_v167 : Ref sig .tc := ⟨.hbm, 282, rfl⟩
abbrev main_call1_call0_call0_v168 : Ref sig .tc := ⟨.hbm, 283, rfl⟩
abbrev main_call1_call0_call0_v169 : Ref sig .tc := ⟨.hbm, 284, rfl⟩
abbrev main_call1_call0_call0_v170 : Ref sig .tc := ⟨.hbm, 285, rfl⟩
abbrev main_call1_call0_v18_0 : Ref sig .tc := ⟨.hbm, 286, rfl⟩
abbrev main_call1_call0_call0_v172 : Ref sig .tc := ⟨.hbm, 287, rfl⟩
abbrev main_call1_call0_call0_v173 : Ref sig .tc := ⟨.hbm, 288, rfl⟩
abbrev main_call1_call0_call0_c_44 : Ref sig .tc := ⟨.hbm, 289, rfl⟩
abbrev main_call1_call0_call0_v174 : Ref sig .tc := ⟨.hbm, 290, rfl⟩
abbrev main_call1_call0_v18_1 : Ref sig .tc := ⟨.hbm, 291, rfl⟩
abbrev main_call1_call0_v19 : Ref sig .tc := ⟨.hbm, 292, rfl⟩
abbrev main_call1_call0_c_2 : Ref sig .tc := ⟨.hbm, 293, rfl⟩
abbrev main_call1_call0_v20 : Ref sig .tc := ⟨.hbm, 294, rfl⟩
abbrev main_call1_call0_v21 : Ref sig .tc := ⟨.hbm, 295, rfl⟩
abbrev main_call1_call0_c_3 : Ref sig .tc := ⟨.hbm, 296, rfl⟩
abbrev main_call1_call0_v22 : Ref sig .tc := ⟨.hbm, 297, rfl⟩
abbrev main_call1_call0_v23 : Ref sig .tc := ⟨.hbm, 298, rfl⟩
abbrev main_call1_call0_v24 : Ref sig .tc := ⟨.hbm, 299, rfl⟩
abbrev main_call1_call0_cst : Ref sig .tc := ⟨.hbm, 300, rfl⟩
abbrev main_call1_call0_v25 : Ref sig .tc := ⟨.hbm, 301, rfl⟩
abbrev main_call1_call0_v26 : Ref sig .tc := ⟨.hbm, 302, rfl⟩
abbrev main_call1_call0_v27 : Ref sig .tc := ⟨.hbm, 303, rfl⟩
abbrev main_call1_call0_v28 : Ref sig .tc := ⟨.hbm, 304, rfl⟩
abbrev main_call1_call0_v29 : Ref sig .tc := ⟨.hbm, 305, rfl⟩
abbrev main_call1_call0_v30 : Ref sig .tc := ⟨.hbm, 306, rfl⟩
abbrev main_call1_call0_v31 : Ref sig .tc := ⟨.hbm, 307, rfl⟩
abbrev main_call1_call0_v32 : Ref sig .tc := ⟨.hbm, 308, rfl⟩
abbrev main_call1_v0 : Ref sig .tc := ⟨.hbm, 309, rfl⟩
abbrev main_call1_v1 : Ref sig .tc := ⟨.hbm, 310, rfl⟩
abbrev main_call1_v2 : Ref sig .tc := ⟨.hbm, 311, rfl⟩
abbrev main_call1_v3 : Ref sig .tc := ⟨.hbm, 312, rfl⟩
abbrev main_v24 : Ref sig .tc := ⟨.hbm, 313, rfl⟩
abbrev main_v25 : Ref sig .tc := ⟨.hbm, 314, rfl⟩
abbrev main_call2_v0 : Ref sig .tc := ⟨.hbm, 315, rfl⟩
abbrev main_call2_cst : Ref sig .tc := ⟨.hbm, 316, rfl⟩
abbrev main_call2_c : Ref sig .tc := ⟨.hbm, 317, rfl⟩
abbrev main_call2_v1_0 : Ref sig .tc := ⟨.hbm, 318, rfl⟩
abbrev main_v26 : Ref sig .tc := ⟨.hbm, 319, rfl⟩
abbrev main_call3_v0 : Ref sig .tc := ⟨.hbm, 320, rfl⟩
abbrev main_call3_v1 : Ref sig .tc := ⟨.hbm, 321, rfl⟩
abbrev main_call3_v2 : Ref sig .tc := ⟨.hbm, 322, rfl⟩
abbrev main_call3_v3 : Ref sig .tc := ⟨.hbm, 323, rfl⟩
abbrev main_call3_v4 : Ref sig .tc := ⟨.hbm, 324, rfl⟩
abbrev main_v27 : Ref sig .tc := ⟨.hbm, 325, rfl⟩
abbrev main_v28 : Ref sig .tc := ⟨.hbm, 326, rfl⟩
abbrev main_cst_4 : Ref sig .tc := ⟨.hbm, 327, rfl⟩
abbrev main_v29 : Ref sig .tc := ⟨.hbm, 328, rfl⟩
abbrev main_cst_5 : Ref sig .tc := ⟨.hbm, 329, rfl⟩
abbrev main_v30 : Ref sig .tc := ⟨.hbm, 330, rfl⟩
abbrev main_v31 : Ref sig .tc := ⟨.hbm, 331, rfl⟩
abbrev main_v32 : Ref sig .tc := ⟨.hbm, 332, rfl⟩
abbrev main_v33 : Ref sig .tc := ⟨.hbm, 333, rfl⟩
abbrev main_v34 : Ref sig .tc := ⟨.hbm, 334, rfl⟩
abbrev main_cst_6 : Ref sig .tc := ⟨.hbm, 335, rfl⟩
abbrev main_v35 : Ref sig .tc := ⟨.hbm, 336, rfl⟩
abbrev main_cst_7 : Ref sig .tc := ⟨.hbm, 337, rfl⟩
abbrev main_v36 : Ref sig .tc := ⟨.hbm, 338, rfl⟩

abbrev nD : Nat := 1
abbrev τ : Topo := Topo.v7x

variable {F : FTy → Type} [FloatOps F]
-- ==== Proof.Words.lean ====
module

public import Idealize.ShloMosaic.PureOps.Ideal

@[expose] public section
noncomputable section

/-! The random words both programs draw: the counter-based hash threefry2x32 on one pair of 32-bit words, and the
    Gumbel noise made of its output. -/

namespace Cert.Draw

open Idealize.ShloMosaic

/-- A pair of 32-bit words, the hash's state. -/
abbrev Pair := BitVec 32 × BitVec 32

/-- One round: the second word is added into the first, then rotated by `n` (`k` is `32 − n`) and combined with the sum. -/
def mix (n k : BitVec 32) (p : Pair) : Pair := (p.1 + p.2, (p.1 + p.2) ^^^ (p.2 <<< n ||| p.2 >>> k))

/-- A key injection: a key word into each word, and the injection's number into the second. -/
def inj (n a b : BitVec 32) (p : Pair) : Pair := (p.1 + a, p.2 + b + n)

/-- Four rounds with the first set of rotations. -/
def mixA (p : Pair) : Pair := mix 6#32 26#32 (mix 26#32 6#32 (mix 15#32 17#32 (mix 13#32 19#32 p)))

/-- Four rounds with the second set of rotations. -/
def mixB (p : Pair) : Pair := mix 24#32 8#32 (mix 16#32 16#32 (mix 29#32 3#32 (mix 17#32 15#32 p)))

/-- The hash of a pair of words under the key words `a`, `b`, and `c`, the third word derived of them. -/
def hash (a b c : BitVec 32) (p : Pair) : Pair :=
  inj 5#32 c a (mixA (inj 4#32 b c (mixB (inj 3#32 a b (mixA (inj 2#32 c a (mixB (inj 1#32 b c (mixA (inj 0#32 a b p))))))))))

/-- The hash's output for counter `n` under the seed 42, its two words combined. -/
def bits (n : BitVec 32) : BitVec 32 :=
  let p := hash 0#32 42#32 466689008#32 (0#32, n)
  p.1 ^^^ p.2

/-- A word made a number between the least normal float and one: its upper 23 bits as a fraction, stretched to that interval. -/
def uniform (w : BitVec 32) : EReal :=
  max (Ideal.ofBits .f32 0x00800000#32)
    ((Ideal.ofBits .f32 (w >>> (9#32) ||| 1065353216#32) - Ideal.ofBits .f32 0x3F800000#32)
      * (Ideal.ofBits .f32 0x3F800000#32 - Ideal.ofBits .f32 0x00800000#32) + Ideal.ofBits .f32 0x00800000#32)

/-- The Gumbel noise of counter `n`. -/
def noise (n : BitVec 32) : EReal := - Ideal.log (- Ideal.log (uniform (bits n)))

end Cert.Draw
end
-- ==== Proof.Rows.lean ====
module

public import proofs.«01_k».proof.Proof.Words

@[expose] public section
noncomputable section

/-! What one row of the result is, as plain mathematics over the extended reals: both programs compute these. -/

namespace Cert.Draw

open Idealize.ShloMosaic
open scoped BigOperators

/-- One number per class. -/
abbrev Row := Fin 6 → EReal

/-- The greatest entry of a row. -/
def peak (z : Row) : EReal := Finset.univ.fold max (Ideal.ofBits .f32 0xFF800000#32) z

/-- A row less its greatest entry. -/
def shifted (z : Row) : Row := fun c => z c - peak z

/-- The softmax's denominator. -/
def mass (z : Row) : EReal := ∑ c, Ideal.exp (shifted z c)

/-- The softmax of a row. -/
def prob (z : Row) : Row := fun c => Ideal.div (Ideal.exp (shifted z c)) (mass z)

/-- The log-softmax of a row. -/
def logProb (z : Row) : Row := fun c => shifted z c - Ideal.log (mass z)

/-- A row of logits with the noise of row `r` of the whole array added. -/
def score (z : Row) (r : ℕ) : Row := fun c => z c + noise (BitVec.ofNat 32 (6 * r + c.val))

/-- One step of the search for the greatest entry: a new value takes the place of the best so far when it is greater. -/
def better (s : Row) (b : EReal × BitVec 32) (c : Fin 6) : EReal × BitVec 32 :=
  if b.1 < s c then (s c, BitVec.ofNat 32 c.val) else b

/-- The first index of the greatest entry of a row. -/
def best (s : Row) : BitVec 32 :=
  (better s (better s (better s (better s (better s (s 0, 0#32) 1) 2) 3) 4) 5).2

/-- The one-hot row of the best index. -/
def oneHot (s : Row) : Row := fun c => if BitVec.ofNat 32 c.val = best s then 1 else 0

/-- The log-probability of the drawn class. -/
def elig (z : Row) (r : ℕ) : EReal := ∑ c, oneHot (score z r) c * logProb z c

/-- A row's share of the entropy. -/
def ent (z : Row) : EReal :=
  ∑ c, (-(prob z c + Ideal.ofBits .f32 0x322BCC77#32)) * Ideal.log (prob z c + Ideal.ofBits .f32 0x322BCC77#32)

/-- The reference's word for minus infinity is the least extended real. -/
theorem bot_bits : Ideal.ofBits .f32 0xFF800000#32 = ⊥ := by
  simp [Ideal.ofBits, Ideal.ieee]

/-- The greatest entry of a row is at least that. -/
theorem le_peak (z : Row) : Ideal.ofBits .f32 0xFF800000#32 ≤ peak z := by
  rw [bot_bits]; exact bot_le

end Cert.Draw
end
-- ==== Proof.KerHash.lean ====
module

public import proofs.«01_k».proof.Proof.Gen.KernelIdeal.Skeleton
public import proofs.«01_k».proof.Proof.Rows
public import Idealize.ShloMosaic.Lib.Pointwise

@[expose] public section
noncomputable section

/-! The kernel's random words: round by round, an entry of the kernel's word arrays is the hash's state for that entry's number. -/

namespace Cert.KernelIdeal.Own

open Idealize.ShloMosaic Cert.KernelIdeal Cert.KernelIdeal.Gen Cert.Draw

/-- The number of entry (`c`, `j`) of block `i`, counted over the whole array. -/
def num (i : grid0.Coords) (c : Fin 6) (j : Fin 8192) : ℕ := 6 * (8192 * (i 0).val + j.val) + c.val

/-- The kernel's counter is the entry's number, the second key word already added. -/
theorem counter (i : grid0.Coords) (c : Fin 6) (j : Fin 8192) :
    k0_pay4 i (ix2 c j) = BitVec.ofNat 32 (num i c j) + 42#32 := by
  unfold k0_pay4 num
  pointwise []
  simp only [IntOp.addi, IntOp.muli, Scalar.muli, BitVec.ofNat_add, BitVec.ofNat_mul]
  rw [BitVec.mul_comm (BitVec.ofNat 32 (i 0).val), BitVec.mul_comm _ (BitVec.ofNat 32 6)]

/-- The kernel's starting words are the entry's number after the first key injection. -/
theorem start (i : grid0.Coords) (c : Fin 6) (j : Fin 8192) :
    (0#32 + 0#32, k0_pay4 i (ix2 c j)) = inj 0#32 0#32 42#32 (0#32, BitVec.ofNat 32 (num i c j)) := by
  rw [counter]
  simp [inj]

/-! A theorem `roundN` below says that the kernel's words after its `N`th round are one round of the hash on those before it. -/

section First

variable (i : grid0.Coords) (j : S6x8192.Idx)

theorem round1 : (k0_pay5 i j, k0_pay6 i j) = mix 13#32 19#32 (0#32 + 0#32, k0_pay4 i j) := rfl
theorem round2 : (k0_pay7 i j, k0_pay8 i j) = mix 15#32 17#32 (k0_pay5 i j, k0_pay6 i j) := rfl
theorem round3 : (k0_pay9 i j, k0_pay9 i j ^^^ (k0_pay10 i j ||| k0_pay11 i j)) = mix 26#32 6#32 (k0_pay7 i j, k0_pay8 i j) := rfl

end First

section Second

variable (a b d : IVec S6x8192 32) (j : S6x8192.Idx)

/-- Round four, and the first key injection that follows it. -/
theorem round4 : (k0_pay13 a b d j + 42#32, k0_pay14 a b d j)
    = inj 1#32 42#32 466689008#32 (mix 6#32 26#32 (a j, a j ^^^ (b j ||| d j))) := rfl
theorem round5 : (k0_pay15 a b d j, k0_pay16 a b d j) = mix 17#32 15#32 (k0_pay13 a b d j + 42#32, k0_pay14 a b d j) := rfl
theorem round6 : (k0_pay17 a b d j, k0_pay18 a b d j) = mix 29#32 3#32 (k0_pay15 a b d j, k0_pay16 a b d j) := rfl
theorem round7 : (k0_pay19 a b d j, k0_pay20 a b d j) = mix 16#32 16#32 (k0_pay17 a b d j, k0_pay18 a b d j) := rfl
theorem round8 : (k0_pay21 a b d j, k0_pay22 a b d j) = mix 24#32 8#32 (k0_pay19 a b d j, k0_pay20 a b d j) := rfl
/-- The key word added to the first word after round eight. -/
theorem key8 : k0_pay23 a b d j = k0_pay21 a b d j + 466689008#32 := rfl

/-- Rounds four to eight. -/
theorem second : (k0_pay21 a b d j, k0_pay22 a b d j)
    = mixB (inj 1#32 42#32 466689008#32 (mix 6#32 26#32 (a j, a j ^^^ (b j ||| d j)))) := by
  rw [round8, round7, round6, round5, round4]
  rfl

end Second

section Third

variable (a b : IVec S6x8192 32) (j : S6x8192.Idx)

theorem round9 : (k0_pay25 a b 0#32 j, k0_pay26 a b 0#32 j) = mix 13#32 19#32 (b j, a j + 0#32 + 2#32) := rfl
theorem round10 : (k0_pay27 a b 0#32 j, k0_pay28 a b 0#32 j) = mix 15#32 17#32 (k0_pay25 a b 0#32 j, k0_pay26 a b 0#32 j) := rfl
theorem round11 : (k0_pay29 a b 0#32 j, k0_pay30 a b 0#32 j) = mix 26#32 6#32 (k0_pay27 a b 0#32 j, k0_pay28 a b 0#32 j) := rfl
/-- Round twelve, and the key word added to the first word after it. -/
theorem round12 : (k0_pay31 a b 0#32 j + 0#32, k0_pay32 a b 0#32 j)
    = inj 3#32 0#32 42#32 (mix 6#32 26#32 (k0_pay29 a b 0#32 j, k0_pay30 a b 0#32 j)) := rfl
theorem round13 : (k0_pay33 a b 0#32 j, k0_pay34 a b 0#32 j) = mix 17#32 15#32 (k0_pay31 a b 0#32 j + 0#32, k0_pay32 a b 0#32 j) := rfl
/-- The sum with which round fourteen begins. -/
theorem sum13 : k0_pay35 a b 0#32 j = k0_pay33 a b 0#32 j + k0_pay34 a b 0#32 j := rfl

/-- Rounds nine to thirteen. -/
theorem third : (k0_pay33 a b 0#32 j, k0_pay34 a b 0#32 j)
    = mix 17#32 15#32 (inj 3#32 0#32 42#32 (mixA (b j, a j + 0#32 + 2#32))) := by
  rw [round13, round12, round11, round10, round9]
  rfl

end Third

section Fourth

variable (a b : IVec S6x8192 32) (j : S6x8192.Idx)

/-- Round fourteen, from the sum handed over and the word that it was made with. -/
theorem round14 (x : BitVec 32) (h : b j = x + a j) : (b j, k0_pay36 a b j) = mix 29#32 3#32 (x, a j) := by
  show (b j, b j ^^^ (a j <<< 29#32 ||| a j >>> 3#32)) = _
  rw [h]
  rfl
theorem round15 : (k0_pay37 a b j, k0_pay38 a b j) = mix 16#32 16#32 (b j, k0_pay36 a b j) := rfl
/-- Round sixteen, and the key injection that follows it. -/
theorem round16 : (k0_pay39 a b j + 42#32, k0_pay40 a b j)
    = inj 4#32 42#32 466689008#32 (mix 24#32 8#32 (k0_pay37 a b j, k0_pay38 a b j)) := rfl
theorem round17 : (k0_pay41 a b j, k0_pay42 a b j) = mix 13#32 19#32 (k0_pay39 a b j + 42#32, k0_pay40 a b j) := rfl
theorem round18 : (k0_pay43 a b j, k0_pay44 a b j) = mix 15#32 17#32 (k0_pay41 a b j, k0_pay42 a b j) := rfl
theorem round19 : (k0_pay45 a b j, k0_pay45 a b j ^^^ (k0_pay46 a b j ||| k0_pay47 a b j))
    = mix 26#32 6#32 (k0_pay43 a b j, k0_pay44 a b j) := rfl

/-- Rounds fourteen to nineteen. -/
theorem fourth (x : BitVec 32) (h : b j = x + a j) :
    (k0_pay45 a b j, k0_pay45 a b j ^^^ (k0_pay46 a b j ||| k0_pay47 a b j))
      = mix 26#32 6#32 (mix 15#32 17#32 (mix 13#32 19#32 (inj 4#32 42#32 466689008#32
          (mix 24#32 8#32 (mix 16#32 16#32 (mix 29#32 3#32 (x, a j))))))) := by
  rw [round19, round18, round17, round16, round15, round14 a b j x h]

end Fourth

/-! The word arrays one part of the kernel hands to the next. -/

/-- The sum of round three. -/
abbrev w36 (i : grid0.Coords) : IVec S6x8192 32 := k0_pay9 i
/-- The left part of round three's rotation. -/
abbrev w38 (i : grid0.Coords) : IVec S6x8192 32 := k0_pay10 i
/-- The right part of round three's rotation. -/
abbrev w40 (i : grid0.Coords) : IVec S6x8192 32 := k0_pay11 i
/-- The second word after round eight. -/
abbrev w83 (i : grid0.Coords) : IVec S6x8192 32 := k0_pay22 (w36 i) (w38 i) (w40 i)
/-- The first word after round eight, its key word added. -/
abbrev w85 (i : grid0.Coords) : IVec S6x8192 32 := k0_pay23 (w36 i) (w38 i) (w40 i)
/-- The second word after round thirteen. -/
abbrev w130 (i : grid0.Coords) : IVec S6x8192 32 := k0_pay34 (w83 i) (w85 i) 0#32
/-- The sum with which round fourteen begins. -/
abbrev w131 (i : grid0.Coords) : IVec S6x8192 32 := k0_pay35 (w83 i) (w85 i) 0#32
/-- The sum of round nineteen. -/
abbrev w172 (i : grid0.Coords) : IVec S6x8192 32 := k0_pay45 (w130 i) (w131 i)
/-- The left part of round nineteen's rotation. -/
abbrev w174 (i : grid0.Coords) : IVec S6x8192 32 := k0_pay46 (w130 i) (w131 i)
/-- The right part of round nineteen's rotation. -/
abbrev w176 (i : grid0.Coords) : IVec S6x8192 32 := k0_pay47 (w130 i) (w131 i)

/-- The first four rounds, from the entry's number. -/
theorem first (i : grid0.Coords) (c : Fin 6) (j : Fin 8192) :
    mix 6#32 26#32 (w36 i (ix2 c j), w36 i (ix2 c j) ^^^ (w38 i (ix2 c j) ||| w40 i (ix2 c j)))
      = mixA (inj 0#32 0#32 42#32 (0#32, BitVec.ofNat 32 (num i c j))) := by
  rw [round3, round2, round1, start]
  rfl

/-- The state the last part starts from, after nineteen rounds; its own twentieth round and last key make the hash. -/
theorem hash_at (i : grid0.Coords) (c : Fin 6) (j : Fin 8192) :
    inj 5#32 466689008#32 0#32 (mix 6#32 26#32
        (w172 i (ix2 c j), w172 i (ix2 c j) ^^^ (w174 i (ix2 c j) ||| w176 i (ix2 c j))))
      = hash 0#32 42#32 466689008#32 (0#32, BitVec.ofNat 32 (num i c j)) := by
  have h2 : (w85 i (ix2 c j), w83 i (ix2 c j) + 0#32 + 2#32)
      = inj 2#32 466689008#32 0#32 (mixB (inj 1#32 42#32 466689008#32
          (mixA (inj 0#32 0#32 42#32 (0#32, BitVec.ofNat 32 (num i c j)))))) := by
    rw [← first, ← second]
    rfl
  rw [fourth (w130 i) (w131 i) (ix2 c j) _ (sum13 _ _ _), third, h2]
  rfl

end Cert.KernelIdeal.Own
end
-- ==== Proof.KerBlock.lean ====
module

public import proofs.«01_k».proof.Proof.KerHash

@[expose] public section
noncomputable section

/-! What the kernel computes of one block of 8192 columns, entry by entry: column `j` holds the numbers of one row of the batch. -/

namespace Cert.KernelIdeal.Own

open Idealize.ShloMosaic Cert.KernelIdeal Cert.KernelIdeal.Gen Cert.Draw

/-- Column `j` of an array of six rows. -/
def col (v : FVec Ideal S6x8192 .f32) (j : Fin 8192) : Row := fun c => v (ix2 c j)

/-- A logit is the product of a row of weights and a column of the block, plus the class's bias. -/
theorem logits_at (x : Vec Ideal S100x8192 .f32) (w : Vec Ideal S6x100 .f32) (b : Vec Ideal S1x6 .f32) (c : Fin 6) (j : Fin 8192) :
    k0_pay3 x w b (ix2 c j) = (∑ k : Fin 100, w (ix2 c k) * x (ix2 k j)) + b (ix2 0 c) := by
  unfold k0_pay3
  pointwise []

/-! The scores' payload in four stages: the last word of the hash, a number between one and two of it, the noise of that, the sum with the logits. -/

/-- The word an entry's noise is drawn from: the hash's last round and last key. -/
def lastWords (a b d : IVec S6x8192 32) : IVec S6x8192 32 :=
  let x := xori a (ori b d)
  xori (addi (addi a x) (broadcast S6x8192 466689008#32))
    (addi (addi (xori (addi a x) (ori (shli x (broadcast S6x8192 6#32)) (shrui x (broadcast S6x8192 26#32))))
      (broadcast S6x8192 0#32)) (broadcast S6x8192 5#32))

/-- A word's upper 23 bits as the fraction of a number between one and two. -/
def fractions (w : IVec S6x8192 32) : FVec Ideal S6x8192 .f32 :=
  bitcastToFloat .f32 (ori (shrui w (broadcast S6x8192 9#32)) (broadcast S6x8192 1065353216#32))

/-- The noise of a number between one and two. -/
def noises (u : FVec Ideal S6x8192 .f32) : FVec Ideal S6x8192 .f32 :=
  subf (broadcast S6x8192 (Scalar.ofBits .f32 0x00000000#32)) (log (subf (broadcast S6x8192 (Scalar.ofBits .f32 0x00000000#32)) (log
    (maximumf (broadcast S6x8192 (Scalar.ofBits .f32 0x00800000#32))
      (addf (mulf (subf u (broadcast S6x8192 (Scalar.ofBits .f32 0x3F800000#32)))
        (broadcast S6x8192 (Scalar.subf (Scalar.ofBits .f32 0x3F800000#32) (Scalar.ofBits .f32 0x00800000#32))))
        (broadcast S6x8192 (Scalar.ofBits .f32 0x00800000#32)))))))

/-- The scores are the logits plus the noise of the hash's last words. -/
theorem score_parts (v : FVec Ideal S6x8192 .f32) (a b d : IVec S6x8192 32) :
    k0_pay48 v a b d = addf v (noises (fractions (lastWords a b d))) := rfl

/-- If the last round and the last key make the pair `p`, the word drawn combines the two halves of `p`. -/
theorem lastWords_at (a b d : IVec S6x8192 32) (i : S6x8192.Idx) (p : Pair)
    (h : inj 5#32 466689008#32 0#32 (mix 6#32 26#32 (a i, a i ^^^ (b i ||| d i))) = p) :
    lastWords a b d i = p.1 ^^^ p.2 := by
  subst h
  rfl

/-- One entry of the numbers between one and two. -/
theorem fractions_at (w : IVec S6x8192 32) (i : S6x8192.Idx) :
    fractions w i = Ideal.ofBits .f32 (w i >>> 9#32 ||| 1065353216#32) := rfl

/-- One entry of the noise, with negation spelled as subtraction from zero. -/
theorem noises_at (u : FVec Ideal S6x8192 .f32) (i : S6x8192.Idx) :
    noises u i = Ideal.ofBits .f32 0x00000000#32 - Ideal.log (Ideal.ofBits .f32 0x00000000#32
      - Ideal.log (max (Ideal.ofBits .f32 0x00800000#32)
        ((u i - Ideal.ofBits .f32 0x3F800000#32) * (Ideal.ofBits .f32 0x3F800000#32 - Ideal.ofBits .f32 0x00800000#32)
          + Ideal.ofBits .f32 0x00800000#32))) := rfl

/-- The noise of a word is minus the logarithm of minus the logarithm of its uniform number. -/
theorem noise_at (w : IVec S6x8192 32) (i : S6x8192.Idx) :
    noises (fractions w) i = -Ideal.log (-Ideal.log (uniform (w i))) := by
  rw [noises_at, fractions_at, Ideal.ofBits_zero_f32, zero_sub, zero_sub]
  unfold uniform
  exact congrArg _ rfl

/-- A score is the logit plus the noise of the entry's number. -/
theorem score_at (v : FVec Ideal S6x8192 .f32) (i : grid0.Coords) (c : Fin 6) (j : Fin 8192) :
    k0_pay48 v (w172 i) (w174 i) (w176 i) (ix2 c j) = v (ix2 c j) + noise (BitVec.ofNat 32 (num i c j)) := by
  rw [score_parts]
  refine congrArg (v (ix2 c j) + ·) ?_
  rw [noise_at, lastWords_at _ _ _ _ _ (hash_at i c j)]
  unfold noise bits
  exact congrArg _ rfl

/-- A logit less the greatest of its column. -/
theorem shifted_at (v : FVec Ideal S6x8192 .f32) (c : Fin 6) (j : Fin 8192) :
    k0_pay54 v (ix2 c j) = shifted (col v j) c := by
  unfold k0_pay54
  pointwise []
  rfl

/-- The exponential of a shifted logit. -/
theorem exp_at (v : FVec Ideal S6x8192 .f32) (c : Fin 6) (j : Fin 8192) :
    k0_pay55 v (ix2 c j) = Ideal.exp (shifted (col v j) c) := by
  rw [← shifted_at]
  rfl

/-- The sum of a column's exponentials. -/
theorem mass_at (v : FVec Ideal S6x8192 .f32) (j : Fin 8192) :
    k0_pay56 v (ix2 0 j) = mass (col v j) := by
  unfold k0_pay56
  pointwise []
  simp only [exp_at]
  rfl

/-- The value after a step of the search: the greater of the two. -/
theorem better_fst (s : Row) (b : EReal × BitVec 32) (c : Fin 6) : (better s b c).1 = if b.1 < s c then s c else b.1 :=
  apply_ite Prod.fst _ _ _

/-- The index after a step of the search: the new one only if its value is strictly greater. -/
theorem better_snd (s : Row) (b : EReal × BitVec 32) (c : Fin 6) : (better s b c).2 = if b.1 < s c then BitVec.ofNat 32 c.val else b.2 :=
  apply_ite Prod.snd _ _ _

/-- The kernel's first comparison, of class one with class zero, is the search's first step. -/
theorem first_at (v : FVec Ideal S6x8192 .f32) (a b d : IVec S6x8192 32) (j : Fin 8192) :
    (k0_pay52 v a b d (ix2 0 j), k0_pay53 v a b d (ix2 0 j)) = better (col (k0_pay48 v a b d) j) (k0_pay48 v a b d (ix2 0 j), 0#32) 1 := by
  refine Prod.ext ?_ ?_
  · rw [better_fst]
    unfold k0_pay52 k0_pay51 k0_pay50 k0_pay49
    pointwise []
    rfl
  · rw [better_snd]
    unfold k0_pay53 k0_pay51 k0_pay50 k0_pay49
    pointwise []
    rfl

/-- A comparison's answer, widened to a word and read as a number: one or zero. -/
theorem indicator (x y : BitVec 32) :
    (FloatOps.sitofp .f32 (BitVec.setWidth 32 (IntOp.cmpi .eq x y)) : Ideal .f32) = if x = y then 1 else 0 := by
  by_cases h : x = y
  · simp [h, IntOp.cmpi, FloatOps.sitofp]
  · simp [h, IntOp.cmpi, FloatOps.sitofp, beq_eq_false_iff_ne.2 h]

/-- The one-hot column of the search's index, the search begun at `p`, `q` before class two. -/
theorem oneHot_at (s : FVec Ideal S6x8192 .f32) (p : FVec Ideal S1x8192 .f32) (q : IVec S1x8192 32) (c : Fin 6) (j : Fin 8192) :
    k0_pay57 s p q (ix2 c j) = if BitVec.ofNat 32 c.val
      = (better (col s j) (better (col s j) (better (col s j) (better (col s j) (p (ix2 0 j), q (ix2 0 j)) 2) 3) 4) 5).2 then 1 else 0 := by
  unfold k0_pay57
  pointwise []
  rw [indicator]
  simp only [better_fst, better_snd]
  rfl

/-- The log-probability drawn: the one-hot column against the column's log-probabilities. -/
theorem elig_at (v s : FVec Ideal S6x8192 .f32) (p : FVec Ideal S1x8192 .f32) (q : IVec S1x8192 32) (j : Fin 8192) :
    k0_pay58 v s p q (ix2 0 j) = ∑ c : Fin 6, k0_pay57 s p q (ix2 c j) * logProb (col v j) c := by
  unfold k0_pay58
  pointwise []
  simp only [shifted_at, mass_at]
  rfl

/-- A probability plus the small constant. -/
theorem prob_at (v : FVec Ideal S6x8192 .f32) (c : Fin 6) (j : Fin 8192) :
    k0_pay59 v (ix2 c j) = prob (col v j) c + Ideal.ofBits .f32 0x322BCC77#32 := by
  unfold k0_pay59
  pointwise []
  simp only [exp_at, mass_at]
  rfl

/-- Minus a probability plus the small constant. -/
theorem neg_at (v : FVec Ideal S6x8192 .f32) (c : Fin 6) (j : Fin 8192) :
    k0_pay60 v (ix2 c j) = -(prob (col v j) c + Ideal.ofBits .f32 0x322BCC77#32) := by
  unfold k0_pay60
  pointwise []
  rw [prob_at, zero_sub]

/-- The entropy sum after a point: the sum before it, plus the block's products, column by column. -/
theorem ent_at (v u : FVec Ideal S6x8192 .f32) (a : Vec Ideal S1x1 .f32) :
    k0_pay2 v u a (ix2 0 0) = a (ix2 0 0) + ∑ j : Fin 8192, ∑ c : Fin 6, u (ix2 c j) * Ideal.log (v (ix2 c j)) := by
  unfold k0_pay2
  pointwise []
  rw [Finset.sum_comm]

end Cert.KernelIdeal.Own
end
-- ==== Proof.KerRow.lean ====
module

public import proofs.«01_k».proof.Proof.KerBlock

@[expose] public section
noncomputable section

/-! Column `j` of block `i` is row `8192 i + j` of the batch: the kernel's three results of a block, as the draw of that row. -/

namespace Cert.KernelIdeal.Own

open Idealize.ShloMosaic Cert.KernelIdeal Cert.KernelIdeal.Gen Cert.Draw

/-- The row's number. -/
def rowNum (i : grid0.Coords) (j : Fin 8192) : ℕ := 8192 * (i 0).val + j.val

/-- The block's scores. -/
abbrev scores (i : grid0.Coords) (v : FVec Ideal S6x8192 .f32) : FVec Ideal S6x8192 .f32 :=
  k0_pay48 v (w172 i) (w174 i) (w176 i)

/-- The block's one-hot columns. -/
abbrev hots (i : grid0.Coords) (v : FVec Ideal S6x8192 .f32) : FVec Ideal S6x8192 .f32 :=
  k0_pay57 (scores i v) (k0_pay52 v (w172 i) (w174 i) (w176 i)) (k0_pay53 v (w172 i) (w174 i) (w176 i))

/-- The block's log-probabilities of the classes drawn. -/
abbrev eligs (i : grid0.Coords) (v : FVec Ideal S6x8192 .f32) : FVec Ideal S1x8192 .f32 :=
  k0_pay58 v (scores i v) (k0_pay52 v (w172 i) (w174 i) (w176 i)) (k0_pay53 v (w172 i) (w174 i) (w176 i))

/-- A column of scores is the scores of its row. -/
theorem col_scores (i : grid0.Coords) (v : FVec Ideal S6x8192 .f32) (j : Fin 8192) :
    col (scores i v) j = score (col v j) (rowNum i j) := by
  funext c
  exact score_at v i c j

/-- A one-hot column marks the first class of greatest score in its row. -/
theorem hots_at (i : grid0.Coords) (v : FVec Ideal S6x8192 .f32) (c : Fin 6) (j : Fin 8192) :
    hots i v (ix2 c j) = oneHot (score (col v j) (rowNum i j)) c := by
  unfold hots
  rw [oneHot_at, first_at, col_scores]
  have h0 : k0_pay48 v (w172 i) (w174 i) (w176 i) (ix2 0 j) = score (col v j) (rowNum i j) 0 := congrFun (col_scores i v j) 0
  rw [h0]
  rfl

/-- A log-probability drawn is that of its row. -/
theorem eligs_at (i : grid0.Coords) (v : FVec Ideal S6x8192 .f32) (j : Fin 8192) :
    eligs i v (ix2 0 j) = elig (col v j) (rowNum i j) := by
  unfold eligs
  rw [elig_at]
  exact Finset.sum_congr rfl fun c _ => congrArg (· * logProb (col v j) c) (hots_at i v c j)

/-- The entropy sum after a block: the sum before it, plus the entropies of the block's rows. -/
theorem ents_at (v : FVec Ideal S6x8192 .f32) (a : Vec Ideal S1x1 .f32) :
    k0_pay2 (k0_pay59 v) (k0_pay60 v) a (ix2 0 0) = a (ix2 0 0) + ∑ j : Fin 8192, ent (col v j) := by
  rw [ent_at]
  refine congrArg (a (ix2 0 0) + ·) (Finset.sum_congr rfl fun j _ => Finset.sum_congr rfl fun c _ => ?_)
  rw [prob_at, neg_at]

/-- The entropy sum begins at zero. -/
theorem zero_at : k0_pay1 (F := Ideal) (ix2 0 0) = 0 := by
  unfold k0_pay1
  pointwise []

end Cert.KernelIdeal.Own
end
-- ==== Proof.KerPoint.lean ====
module

public import proofs.«01_k».proof.Proof.KerRow
public import proofs.«01_k».proof.Proof.Gen.KernelIdeal.Frame
public import Idealize.ShloMosaic.Lib.Pipeline.ValueKit
public import Idealize.ShloMosaic.Lib.Claim

@[expose] public section
noncomputable section

/-! What each grid point's run of the kernel leaves, as the draws of the rows its block holds. -/

namespace Cert.KernelIdeal.Own

open Idealize.ShloMosaic Idealize.ShloMosaic.TcCoe Idealize.SL.Sem Cert.KernelIdeal Cert.KernelIdeal.Gen Cert.Draw

variable (m : (ℓ : Loc nD τ sig) → Buf (Elt Ideal) ℓ) (c : Dev nD)

/-- The logits of point `t`'s block. -/
abbrev block (t : Fin cfg0.N) : FVec Ideal S6x8192 .f32 := k0_pay3 (iblk m c 0 t) (iblk m c 1 t) (iblk m c 2 t)

/-- The entropy sum after a point, of the sum before it. -/
abbrev total (t : Fin cfg0.N) (a : Vec Ideal S1x1 .f32) : FVec Ideal S1x1 .f32 :=
  k0_pay2 (k0_pay59 (block m c t)) (k0_pay60 (block m c t)) a

/-- What the first point leaves: its log-probabilities, its one-hot columns, and the entropy sum begun at zero. -/
theorem first_point (t : Fin cfg0.N) (h : t.val % 2 = 0) : outsAt0 m c t.val t.isLt
    = (eligs (grid0.coords t) (block m c t), hots (grid0.coords t) (block m c t), total m c t (k0_pay1 (F := Ideal))) := by
  rw [outsAt0_A m c t h]
  frame_out

/-- What the second point leaves: its log-probabilities, its one-hot columns, and the first point's entropy sum increased. -/
theorem second_point (t : Fin cfg0.N) (h : ¬t.val % 2 = 0) : outsAt0 m c t.val t.isLt
    = (eligs (grid0.coords t) (block m c t), hots (grid0.coords t) (block m c t),
        total m c t (outsAt0 m c (t.val - 1) (Nat.lt_of_le_of_lt (Nat.sub_le _ _) t.isLt)).2.2) := by
  rw [outsAt0_B m c t h]
  frame_out

/-- After a point the first result's block holds that point's log-probabilities. -/
theorem after_elig (t : Fin cfg0.N) : (dats m 0 c).after 3 t = eligs (grid0.coords t) (block m c t) := by
  rw [after0_3]
  by_cases h : t.val % 2 = 0
  · rw [first_point m c t h]
  · rw [second_point m c t h]

/-- After a point the second result's block holds that point's one-hot columns. -/
theorem after_hot (t : Fin cfg0.N) : (dats m 0 c).after 4 t = hots (grid0.coords t) (block m c t) := by
  rw [after0_4]
  by_cases h : t.val % 2 = 0
  · rw [first_point m c t h]
  · rw [second_point m c t h]

/-- After the last point the third result's block holds both points' entropies, added up from zero. -/
theorem after_ent : (dats m 0 c).after 5 t0_1 = total m c t0_1 (total m c t0_0 (k0_pay1 (F := Ideal))) := by
  rw [after0_5, second_point m c t0_1 (by decide)]
  exact congrArg (fun p => total m c t0_1 p.2.2) (first_point m c t0_0 (by decide))

/-- Where each window's block lies. -/
theorem places : ∀ t : Fin cfg0.N, win0_0.index t = ![0, t.val] ∧ win0_1.index t = ![0, 0] ∧ win0_2.index t = ![0, 0]
    ∧ win0_3.index t = ![0, t.val] ∧ win0_4.index t = ![0, t.val] ∧ win0_5.index t = ![0, 0] ∧ (grid0.coords t 0).val = t.val :=
  (by decide +kernel : ∀ t : Fin grid0.N, _)

/-- The logits of row `r`, from the arguments. -/
def logits (r : Fin 16384) : Row :=
  let x : Vec Ideal S16384x100 .f32 := m ((c : Thread nD τ).loc main_arg0)
  let w : Vec Ideal S6x100 .f32 := m ((c : Thread nD τ).loc main_arg1)
  let b : Vec Ideal S6 .f32 := m ((c : Thread nD τ).loc main_arg2)
  fun o => (∑ k : Fin 100, x (ix2 r k) * w (ix2 o k)) + b (ix1 o)

/-- The row that column `j` of point `t`'s block holds. -/
def rowOf (t : Fin cfg0.N) (j : Fin 8192) : Fin 16384 := ⟨8192 * t.val + j.val, by have := t.isLt; have : cfg0.N = 2 := N_0; omega⟩

/-- The kernel's first input is the first argument transposed. -/
theorem entry_rows : V m c main_v0 = transpose S100x16384 [1, 0] (m ((c : Thread nD τ).loc main_arg0)) transposes_S16384x100_S100x16384_1_0 := by
  show StableHlo.after hostOps0 (fun b => m (c, b)) (Proc.tc.devRef main_v0) = _
  unfold hostOps0
  after_results

/-- The kernel's third input is the bias as one row. -/
theorem entry_bias : V m c main_v1 = shapeCast S1x6 (m ((c : Thread nD τ).loc main_arg2)) shapeCasts_S6_S1x6 := by
  show StableHlo.after hostOps0 (fun b => m (c, b)) (Proc.tc.devRef main_v1) = _
  unfold hostOps0
  after_results
  rfl

/-- A point's block of the first input, entry by entry: column `j` is a row of the argument. -/
theorem block_rows (t : Fin cfg0.N) (k : Fin 100) (j : Fin 8192) :
    iblk m c 0 t (ix2 k j) = m ((c : Thread nD τ).loc main_arg0) (ix2 (rowOf t j) k) := by
  unfold rowOf
  unfold iblk
  rw [View.read_apply]
  show V m c main_v0 _ = _
  rw [entry_rows]
  pointwise []
  blk_ext! [places t]

/-- A point's block of the second input is the whole argument. -/
theorem block_weights (t : Fin cfg0.N) (o : Fin 6) (k : Fin 100) :
    iblk m c 1 t (ix2 o k) = m ((c : Thread nD τ).loc main_arg1) (ix2 o k) := by
  blk_ext! [iblk, V, places t]

/-- A point's block of the third input is the whole bias. -/
theorem block_bias (t : Fin cfg0.N) (o : Fin 6) :
    iblk m c 2 t (ix2 0 o) = m ((c : Thread nD τ).loc main_arg2) (ix1 o) := by
  unfold iblk
  rw [View.read_apply]
  show V m c main_v1 _ = _
  rw [entry_bias]
  pointwise []
  blk_ext! [places t]

/-- A column of a point's logits is the logits of the row which that column holds. -/
theorem col_block (t : Fin cfg0.N) (j : Fin 8192) : col (block m c t) j = logits m c (rowOf t j) := by
  funext o
  refine (logits_at _ _ _ o j).trans ?_
  rw [block_bias]
  refine congrArg (· + _) (Finset.sum_congr rfl fun k _ => ?_)
  rw [block_rows, block_weights]
  exact mul_comm _ _

end Cert.KernelIdeal.Own
end
-- ==== Proof.KerArray.lean ====
module

public import proofs.«01_k».proof.Proof.KerPoint

@[expose] public section
noncomputable section

/-! What the kernel's three result arrays hold after the last grid point. -/

namespace Cert.KernelIdeal.Own

open Idealize.ShloMosaic Idealize.ShloMosaic.TcCoe Idealize.SL.Sem Cert.KernelIdeal Cert.KernelIdeal.Gen Cert.Draw

variable (m : (ℓ : Loc nD τ sig) → Buf (Elt Ideal) ℓ) (c : Dev nD)

/-- The log-probabilities of the classes drawn, a row of them. -/
def eligArray : Vec Ideal S1x16384 .f32 := fun i => elig (logits m c (i 1)) (i 1).val

/-- The one-hot columns. -/
def hotArray : Vec Ideal S6x16384 .f32 := fun i => oneHot (score (logits m c (i 1)) (i 1).val) (i 0)

/-- Two ways of counting agree: the row number by grid coordinates and by grid point. -/
theorem rowNum_eq (t : Fin cfg0.N) (j : Fin 8192) : rowNum (grid0.coords t) j = (rowOf t j).val := by
  unfold rowNum rowOf
  rw [(places t).2.2.2.2.2.2]

/-- A point's block of log-probabilities is its part of the whole array. -/
theorem elig_block (t : Fin cfg0.N) (y : S1x8192.Idx) (i : S1x16384.Idx) (h : (i 1).val = 8192 * t.val + (y 1).val) :
    eligs (grid0.coords t) (block m c t) y = eligArray m c i := by
  obtain ⟨j, rfl⟩ : ∃ j, y = ix2 0 j := ⟨y 1, by idx_vars y; blk_ext! []⟩
  have hr : rowOf t j = i 1 := Fin.ext h.symm
  rw [eligs_at, rowNum_eq, col_block, hr]
  rfl

/-- A point's block of one-hot columns is its part of the whole array. -/
theorem hot_block (t : Fin cfg0.N) (y : S6x8192.Idx) (i : S6x16384.Idx) (h0 : (i 0).val = (y 0).val)
    (h1 : (i 1).val = 8192 * t.val + (y 1).val) : hots (grid0.coords t) (block m c t) y = hotArray m c i := by
  obtain ⟨o, j, rfl⟩ : ∃ o j, y = ix2 o j := ⟨y 0, y 1, by idx_vars y⟩
  have hr : rowOf t j = i 1 := Fin.ext h1.symm
  have ho : o = i 0 := Fin.ext h0.symm
  rw [hots_at, rowNum_eq, col_block, hr, ho]
  rfl

/-- After both points the first result array holds the log-probability of each row's class. -/
theorem elig_array : (dats m 0 c).arrAt 3 cfg0.N = eligArray m c := by
  refine (dats m 0 c).arrAt_eq_of_covers 3 _ (by decide +kernel) fun t hf y => ?_
  blk_simp
  rw [after_elig]
  refine elig_block m c t y _ ?_
  blk_simp [places t]
  omega

/-- After both points the second result array holds each row's one-hot column. -/
theorem hot_array : (dats m 0 c).arrAt 4 cfg0.N = hotArray m c := by
  refine (dats m 0 c).arrAt_eq_of_covers 4 _ (by decide +kernel) fun t hf y => ?_
  blk_simp
  rw [after_hot]
  refine hot_block m c t y _ ?_ ?_
  · blk_simp [places t]
  · blk_simp [places t]
    omega

/-- A point adds to the running sum the entropies of the rows its block holds. -/
theorem total_at (t : Fin cfg0.N) (a : Vec Ideal S1x1 .f32) :
    total m c t a (ix2 0 0) = a (ix2 0 0) + ∑ j : Fin 8192, ent (logits m c (rowOf t j)) := by
  refine (ents_at _ a).trans (congrArg (a (ix2 0 0) + ·) (Finset.sum_congr rfl fun j _ => ?_))
  rw [col_block]

/-- The sum over the batch is the sum over the first point's rows and the second's. -/
theorem two_blocks (f : Fin 16384 → EReal) :
    ∑ r, f r = (∑ j : Fin 8192, f (rowOf t0_0 j)) + ∑ j : Fin 8192, f (rowOf t0_1 j) := by
  refine (Fin.sum_univ_add (a := 8192) (b := 8192) f).trans ?_
  refine congrArg₂ (· + ·) (Finset.sum_congr rfl fun j _ => congrArg f (Fin.ext ?_)) (Finset.sum_congr rfl fun j _ => congrArg f (Fin.ext ?_))
  · show j.val = 8192 * 0 + j.val
    omega
  · show 8192 + j.val = 8192 * 1 + j.val
    omega

/-- After both points the third result array holds the sum of all rows' entropies. -/
theorem ent_array : (dats m 0 c).arrAt 5 cfg0.N = fun _ => ∑ r : Fin 16384, ent (logits m c r) := by
  refine (dats m 0 c).arrAt_eq_of_after_last 5 t0_1 (by decide +kernel) _ fun j => ?_
  blk_simp
  rw [after_ent]
  obtain rfl : j = (ix2 0 0 : S1x1.Idx) := (by decide : ∀ y : S1x1.Idx, y = ix2 0 0) j
  rw [total_at, total_at, zero_at, zero_add, two_blocks]

end Cert.KernelIdeal.Own
end
-- ==== Proof.KerRun.lean ====
module

public import proofs.«01_k».proof.Proof.KerArray

@[expose] public section
noncomputable section

/-! The kernel's run: what its three results hold at the end, after the last reshapes. -/

namespace Cert.KernelIdeal.Own

open Idealize.ShloMosaic Idealize.ShloMosaic.TcCoe Idealize.SL.Sem Cert.KernelIdeal Cert.KernelIdeal.Gen Cert.Draw

variable (m : (ℓ : Loc nD τ sig) → Buf (Elt Ideal) ℓ) (c : Dev nD)

/-- The memory the last reshapes start from. -/
abbrev ended : Valuation τ sig (Elt Ideal) := Pipeline.withArrays (cfgs 0).spec c (V0 m c) fun w => (dats m 0 c).arrAt w (cfgs 0).N

/-- The call's six arrays are six different ones. -/
theorem arrays_distinct : Function.Injective (Pipeline.arrRef (cfgs 0).spec) :=
  (by decide : ∀ a b : Fin 6, Pipeline.arrRef spec0 a = Pipeline.arrRef spec0 b → a = b)

/-- When the call ends, its first result holds the log-probabilities. -/
theorem ended_elig : ended m c (Proc.devRef .tc main_v2_0) = eligArray m c :=
  (Pipeline.withArrays_arr (cfgs 0).spec arrays_distinct c (V0 m c) _ 3).trans (elig_array m c)

/-- When the call ends, its second result holds the one-hot columns. -/
theorem ended_hot : ended m c (Proc.devRef .tc main_v2_1) = hotArray m c :=
  (Pipeline.withArrays_arr (cfgs 0).spec arrays_distinct c (V0 m c) _ 4).trans (hot_array m c)

/-- When the call ends, its third result holds the entropy of the batch. -/
theorem ended_ent : ended m c (Proc.devRef .tc main_v2_2) = fun _ => ∑ r : Fin 16384, ent (logits m c r) :=
  (Pipeline.withArrays_arr (cfgs 0).spec arrays_distinct c (V0 m c) _ 5).trans (ent_array m c)

/-- The log-probability of the class drawn for each row. -/
def eligsOut : Vec Ideal S16384 .f32 := fun i => elig (logits m c (i 0)) (i 0).val

/-- The one-hot row of the class drawn for each row. -/
def hotsOut : Vec Ideal S16384x6 .f32 := fun i => oneHot (score (logits m c (i 0)) (i 0).val) (i 1)

/-- The entropy of the whole batch. -/
def entOut : Vec Ideal S_ .f32 := fun _ => ∑ r : Fin 16384, ent (logits m c r)

/-- The first result of the whole kernel, flattened. -/
theorem final_elig : StableHlo.after hostOps1 (ended m c) (Proc.devRef .tc main_v3) = eligsOut m c := by
  unfold hostOps1
  after_results
  show shapeCast S16384 (ended m c (Proc.devRef .tc main_v2_0)) shapeCasts_S1x16384_S16384 = _
  rw [ended_elig]
  funext i
  idx_vars i
  pointwise [eligArray, eligsOut]

/-- The second result of the whole kernel, transposed back to one row per row of the batch. -/
theorem final_hot : StableHlo.after hostOps1 (ended m c) (Proc.devRef .tc main_v4) = hotsOut m c := by
  unfold hostOps1
  after_results
  rw [ended_hot]
  funext i
  idx_vars i
  pointwise [hotArray, hotsOut]

/-- The third result of the whole kernel, as a scalar. -/
theorem final_ent : StableHlo.after hostOps1 (ended m c) (Proc.devRef .tc main_v5) = entOut m c := by
  unfold hostOps1
  after_results
  show shapeCast S_ (ended m c (Proc.devRef .tc main_v2_2)) shapeCasts_S1x1_S_ = _
  rw [ended_ent]
  rfl

/-- Every run ends with the three results, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v3) = eligsOut m c
      ∧ r.2.mem ((c.tc : Thread nD τ).loc main_v4) = hotsOut m c
      ∧ r.2.mem ((c.tc : Thread nD τ).loc main_v5) = entOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (run_main m ρ) (unchanged m ρ))
  exact ⟨((h.1 c).2 main_v3 (Pipeline.mem_restRefs_of _ (by decide) (by decide))).trans (final_elig m c),
    ((h.1 c).2 main_v4 (Pipeline.mem_restRefs_of _ (by decide) (by decide))).trans (final_hot m c),
    ((h.1 c).2 main_v5 (Pipeline.mem_restRefs_of _ (by decide) (by decide))).trans (final_ent m c), h.2 c⟩

end Cert.KernelIdeal.Own
end
-- ==== Proof.RefOps.lean ====
module

public import proofs.«01_k».proof.Defs
public import proofs.«01_k».proof.Proof.Gen.ReferenceIdeal
public import Idealize.ShloMosaic.Lib.StableHlo.RunHlo
public import Idealize.ShloMosaic.Lib.StableHlo.RunRead

@[expose] public section
noncomputable section

/-! The reference as a list of operations, one stretch after another: the logits, the softmax and its logarithm, the draw, the results. -/

namespace Cert.ReferenceIdeal.Own

open Idealize.ShloMosaic Idealize.SL.Sem Idealize.ShloMosaic.StableHlo Cert.ReferenceIdeal
open Facts₀

variable {F : FTy → Type} [FloatOps F] [Facts]

/-- An operation of the reference. -/
abbrev Op (F : FTy → Type) := HloOp τ sig (Elt F)
/-- A buffer of one 32-bit word. -/
abbrev Word := TRef sig ⟨S_, .i32⟩
/-- A buffer of one 32-bit word for each entry. -/
abbrev Words := TRef sig ⟨S16384x6, .i32⟩

/-- One round of the hash: the sum of the two words, the second word rotated by `n` (`k` is `32 − n`), the two combined. -/
def round (n k : BitVec 32) (x₀ x₁ s : Words) (c : Word) (b l : Words) (d : Word) (e r o y : Words) : List (Op F) :=
  [TRef.binary x₀ x₁ s addi,
   TRef.nullary c (constantI S_ 32 n), TRef.unary c b (broadcastInDim S16384x6 ![] bcast_S_S16384x6), TRef.binary x₁ b l Host.shli,
   TRef.nullary d (constantI S_ 32 k), TRef.unary d e (broadcastInDim S16384x6 ![] bcast_S_S16384x6), TRef.binary x₁ e r Host.shrui,
   TRef.binary l r o ori, TRef.binary s o y xori]

/-- A key injection: the words `k₀` and `k₁` into the two arrays, and the injection's number `n` into the second. -/
def inject (n : BitVec 32) (k₀ k₁ : Word) (x₀ x₁ b s e t : Words) (c : Word) (a y : Words) : List (Op F) :=
  [TRef.unary k₀ b (broadcastInDim S16384x6 ![] bcast_S_S16384x6), TRef.binary x₀ b s addi,
   TRef.unary k₁ e (broadcastInDim S16384x6 ![] bcast_S_S16384x6), TRef.binary x₁ e t addi,
   TRef.nullary c (constantI S_ 32 n), TRef.unary c a (broadcastInDim S16384x6 ![] bcast_S_S16384x6), TRef.binary t a y addi]

/-- The third key word, made of the two given, and the first key injection. -/
def head (k₀ k₁ : Word) (x₀ x₁ : Words) (φ : fn_threefry2x32.Bufs) : List (Op F) :=
  [TRef.binary k₀ k₁ φ.v0 xori, TRef.nullary φ.c (constantI S_ 32 466688986#32), TRef.binary φ.v0 φ.c φ.v1 xori,
   TRef.unary k₀ φ.v2 (broadcastInDim S16384x6 ![] bcast_S_S16384x6), TRef.binary x₀ φ.v2 φ.v3 addi,
   TRef.unary k₁ φ.v4 (broadcastInDim S16384x6 ![] bcast_S_S16384x6), TRef.binary x₁ φ.v4 φ.v5 addi]

/-- The whole hash: the first injection, then five times four rounds and an injection. -/
def threefry (k₀ k₁ : Word) (x₀ x₁ : Words) (φ : fn_threefry2x32.Bufs) : List (Op F) :=
  head k₀ k₁ x₀ x₁ φ
  ++ round 13#32 19#32 φ.v3 φ.v5 φ.v6 φ.c_0 φ.v7 φ.v8 φ.c_1 φ.v9 φ.v10 φ.v11 φ.v12
  ++ round 15#32 17#32 φ.v6 φ.v12 φ.v13 φ.c_2 φ.v14 φ.v15 φ.c_3 φ.v16 φ.v17 φ.v18 φ.v19
  ++ round 26#32 6#32 φ.v13 φ.v19 φ.v20 φ.c_4 φ.v21 φ.v22 φ.c_5 φ.v23 φ.v24 φ.v25 φ.v26
  ++ round 6#32 26#32 φ.v20 φ.v26 φ.v27 φ.c_6 φ.v28 φ.v29 φ.c_7 φ.v30 φ.v31 φ.v32 φ.v33
  ++ inject 1#32 k₁ φ.v1 φ.v27 φ.v33 φ.v34 φ.v35 φ.v36 φ.v37 φ.c_8 φ.v38 φ.v39
  ++ round 17#32 15#32 φ.v35 φ.v39 φ.v40 φ.c_9 φ.v41 φ.v42 φ.c_10 φ.v43 φ.v44 φ.v45 φ.v46
  ++ round 29#32 3#32 φ.v40 φ.v46 φ.v47 φ.c_11 φ.v48 φ.v49 φ.c_12 φ.v50 φ.v51 φ.v52 φ.v53
  ++ round 16#32 16#32 φ.v47 φ.v53 φ.v54 φ.c_13 φ.v55 φ.v56 φ.c_14 φ.v57 φ.v58 φ.v59 φ.v60
  ++ round 24#32 8#32 φ.v54 φ.v60 φ.v61 φ.c_15 φ.v62 φ.v63 φ.c_16 φ.v64 φ.v65 φ.v66 φ.v67
  ++ inject 2#32 φ.v1 k₀ φ.v61 φ.v67 φ.v68 φ.v69 φ.v70 φ.v71 φ.c_17 φ.v72 φ.v73
  ++ round 13#32 19#32 φ.v69 φ.v73 φ.v74 φ.c_18 φ.v75 φ.v76 φ.c_19 φ.v77 φ.v78 φ.v79 φ.v80
  ++ round 15#32 17#32 φ.v74 φ.v80 φ.v81 φ.c_20 φ.v82 φ.v83 φ.c_21 φ.v84 φ.v85 φ.v86 φ.v87
  ++ round 26#32 6#32 φ.v81 φ.v87 φ.v88 φ.c_22 φ.v89 φ.v90 φ.c_23 φ.v91 φ.v92 φ.v93 φ.v94
  ++ round 6#32 26#32 φ.v88 φ.v94 φ.v95 φ.c_24 φ.v96 φ.v97 φ.c_25 φ.v98 φ.v99 φ.v100 φ.v101
  ++ inject 3#32 k₀ k₁ φ.v95 φ.v101 φ.v102 φ.v103 φ.v104 φ.v105 φ.c_26 φ.v106 φ.v107
  ++ round 17#32 15#32 φ.v103 φ.v107 φ.v108 φ.c_27 φ.v109 φ.v110 φ.c_28 φ.v111 φ.v112 φ.v113 φ.v114
  ++ round 29#32 3#32 φ.v108 φ.v114 φ.v115 φ.c_29 φ.v116 φ.v117 φ.c_30 φ.v118 φ.v119 φ.v120 φ.v121
  ++ round 16#32 16#32 φ.v115 φ.v121 φ.v122 φ.c_31 φ.v123 φ.v124 φ.c_32 φ.v125 φ.v126 φ.v127 φ.v128
  ++ round 24#32 8#32 φ.v122 φ.v128 φ.v129 φ.c_33 φ.v130 φ.v131 φ.c_34 φ.v132 φ.v133 φ.v134 φ.v135
  ++ inject 4#32 k₁ φ.v1 φ.v129 φ.v135 φ.v136 φ.v137 φ.v138 φ.v139 φ.c_35 φ.v140 φ.v141
  ++ round 13#32 19#32 φ.v137 φ.v141 φ.v142 φ.c_36 φ.v143 φ.v144 φ.c_37 φ.v145 φ.v146 φ.v147 φ.v148
  ++ round 15#32 17#32 φ.v142 φ.v148 φ.v149 φ.c_38 φ.v150 φ.v151 φ.c_39 φ.v152 φ.v153 φ.v154 φ.v155
  ++ round 26#32 6#32 φ.v149 φ.v155 φ.v156 φ.c_40 φ.v157 φ.v158 φ.c_41 φ.v159 φ.v160 φ.v161 φ.v162
  ++ round 6#32 26#32 φ.v156 φ.v162 φ.v163 φ.c_42 φ.v164 φ.v165 φ.c_43 φ.v166 φ.v167 φ.v168 φ.v169
  ++ inject 5#32 φ.v1 k₀ φ.v163 φ.v169 φ.v170 φ.v171 φ.v172 φ.v173 φ.c_44 φ.v174 φ.v175

/-- The logits: the start of the reference. -/
def logitOps : List (Op F) :=
  [unary main_arg1 main_v0 ((transpose S100x6 [1, 0] · transposes_S6x100_S100x6_1_0) : (⟨S6x100, .f32⟩ : BufTy).Contents (Elt F) → (⟨S100x6, .f32⟩ : BufTy).Contents (Elt F)),
   binary main_arg0 main_v0 main_v1 ((fun l r => Host.dotGeneral dot_S16384x100_S100x6_S16384x6_1_0_0_1_n_n none l r) : (⟨S16384x100, .f32⟩ : BufTy).Contents (Elt F) → (⟨S100x6, .f32⟩ : BufTy).Contents (Elt F) → (⟨S16384x6, .f32⟩ : BufTy).Contents (Elt F)),
   unary main_arg2 main_v2 (broadcastInDim S1x6 ![1] bcast_S6_S1x6_1 : (⟨S6, .f32⟩ : BufTy).Contents (Elt F) → (⟨S1x6, .f32⟩ : BufTy).Contents (Elt F)),
   unary main_v2 main_v3 (broadcastInDim S16384x6 ![0, 1] bcast_S1x6_S16384x6_0_1 : (⟨S1x6, .f32⟩ : BufTy).Contents (Elt F) → (⟨S16384x6, .f32⟩ : BufTy).Contents (Elt F)),
   binary main_v1 main_v3 main_v4 (addf : (⟨S16384x6, .f32⟩ : BufTy).Contents (Elt F) → (⟨S16384x6, .f32⟩ : BufTy).Contents (Elt F) → (⟨S16384x6, .f32⟩ : BufTy).Contents (Elt F))]

/-- The softmax of the logits. -/
def probOps : List (Op F) :=
  [nullary main_cst (constant S_ .f32 0xFF800000#32),
   binary main_v4 main_cst main_v5 ((fun x v => Host.reduce FloatOps.maximumf x v reducesTo_S16384x6_S16384_d1 h_S_) : (⟨S16384x6, .f32⟩ : BufTy).Contents (Elt F) → (⟨S_, .f32⟩ : BufTy).Contents (Elt F) → (⟨S16384, .f32⟩ : BufTy).Contents (Elt F)),
   nullary main_cst_0 (constant S_ .f32 0xFF800000#32),
   unary main_cst_0 main_v6 (broadcastInDim S16384 ![] bcast_S_S16384 : (⟨S_, .f32⟩ : BufTy).Contents (Elt F) → (⟨S16384, .f32⟩ : BufTy).Contents (Elt F)),
   binary main_v6 main_v5 main_v7 (maximumf : (⟨S16384, .f32⟩ : BufTy).Contents (Elt F) → (⟨S16384, .f32⟩ : BufTy).Contents (Elt F) → (⟨S16384, .f32⟩ : BufTy).Contents (Elt F)),
   unary main_v7 main_v8 (broadcastInDim S16384x1 ![0] bcast_S16384_S16384x1_0 : (⟨S16384, .f32⟩ : BufTy).Contents (Elt F) → (⟨S16384x1, .f32⟩ : BufTy).Contents (Elt F)),
   unary main_v8 main_v9 (broadcastInDim S16384x6 ![0, 1] bcast_S16384x1_S16384x6_0_1 : (⟨S16384x1, .f32⟩ : BufTy).Contents (Elt F) → (⟨S16384x6, .f32⟩ : BufTy).Contents (Elt F)),
   binary main_v4 main_v9 main_v10 (subf : (⟨S16384x6, .f32⟩ : BufTy).Contents (Elt F) → (⟨S16384x6, .f32⟩ : BufTy).Contents (Elt F) → (⟨S16384x6, .f32⟩ : BufTy).Contents (Elt F)),
   unary main_v10 main_v11 (Host.exp : (⟨S16384x6, .f32⟩ : BufTy).Contents (Elt F) → (⟨S16384x6, .f32⟩ : BufTy).Contents (Elt F)),
   nullary main_cst_1 (constant S_ .f32 0x00000000#32),
   binary main_v11 main_cst_1 main_v12 ((fun x v => Host.reduceAdd x v reducesTo_S16384x6_S16384_d1 h_S_) : (⟨S16384x6, .f32⟩ : BufTy).Contents (Elt F) → (⟨S_, .f32⟩ : BufTy).Contents (Elt F) → (⟨S16384, .f32⟩ : BufTy).Contents (Elt F)),
   unary main_v12 main_v13 (broadcastInDim S16384x1 ![0] bcast_S16384_S16384x1_0 : (⟨S16384, .f32⟩ : BufTy).Contents (Elt F) → (⟨S16384x1, .f32⟩ : BufTy).Contents (Elt F)),
   unary main_v13 main_v14 (broadcastInDim S16384x6 ![0, 1] bcast_S16384x1_S16384x6_0_1 : (⟨S16384x1, .f32⟩ : BufTy).Contents (Elt F) → (⟨S16384x6, .f32⟩ : BufTy).Contents (Elt F)),
   binary main_v11 main_v14 main_v15 (Host.divf : (⟨S16384x6, .f32⟩ : BufTy).Contents (Elt F) → (⟨S16384x6, .f32⟩ : BufTy).Contents (Elt F) → (⟨S16384x6, .f32⟩ : BufTy).Contents (Elt F))]

/-- The log-softmax of an array of logits. -/
def logSoftmaxOps (arg0 : TRef sig ⟨S16384x6, .f32⟩) (φ : fn_log_softmax.Bufs) : List (Op F) :=
  [TRef.nullary φ.cst (constant S_ .f32 0xFF800000#32),
   TRef.binary arg0 φ.cst φ.v0 (fun x v => Host.reduce FloatOps.maximumf x v reducesTo_S16384x6_S16384_d1 h_S_),
   TRef.nullary φ.cst_0 (constant S_ .f32 0xFF800000#32),
   TRef.unary φ.cst_0 φ.v1 (broadcastInDim S16384 ![] bcast_S_S16384),
   TRef.binary φ.v1 φ.v0 φ.v2 maximumf,
   TRef.unary φ.v2 φ.v3 (broadcastInDim S16384x1 ![0] bcast_S16384_S16384x1_0),
   TRef.unary φ.v3 φ.v4 (broadcastInDim S16384x6 ![0, 1] bcast_S16384x1_S16384x6_0_1),
   TRef.binary arg0 φ.v4 φ.v5 subf,
   TRef.unary φ.v5 φ.v6 Host.exp,
   TRef.nullary φ.cst_1 (constant S_ .f32 0x00000000#32),
   TRef.binary φ.v6 φ.cst_1 φ.v7 (fun x v => Host.reduceAdd x v reducesTo_S16384x6_S16384_d1 h_S_),
   TRef.unary φ.v7 φ.v8 (broadcastInDim S16384x1 ![0] bcast_S16384_S16384x1_0),
   TRef.unary φ.v8 φ.v9 Host.log,
   TRef.unary φ.v9 φ.v10 (broadcastInDim S16384x6 ![0, 1] bcast_S16384x1_S16384x6_0_1),
   TRef.binary φ.v5 φ.v10 φ.v11 subf]

/-- The pair of key words made of the seed. -/
def keyOps : List (Op F) :=
  [nullary main_c (constantI S_ 32 42#32),
   nullary main_c_2 (constantI S_ 32 32#32),
   binary main_c main_c_2 main_v17 (Host.shrui : (⟨S_, .i32⟩ : BufTy).Contents (Elt F) → (⟨S_, .i32⟩ : BufTy).Contents (Elt F) → (⟨S_, .i32⟩ : BufTy).Contents (Elt F)),
   unary main_v17 main_v18 (id : (⟨S_, .i32⟩ : BufTy).Contents (Elt F) → (⟨S_, .i32⟩ : BufTy).Contents (Elt F)),
   unary main_v18 main_v19 (broadcastInDim S1 ![] bcast_S_S1 : (⟨S_, .i32⟩ : BufTy).Contents (Elt F) → (⟨S1, .i32⟩ : BufTy).Contents (Elt F)),
   nullary main_c_3 (constantI S_ 32 4294967295#32),
   binary main_c main_c_3 main_v20 (andi : (⟨S_, .i32⟩ : BufTy).Contents (Elt F) → (⟨S_, .i32⟩ : BufTy).Contents (Elt F) → (⟨S_, .i32⟩ : BufTy).Contents (Elt F)),
   unary main_v20 main_v21 (id : (⟨S_, .i32⟩ : BufTy).Contents (Elt F) → (⟨S_, .i32⟩ : BufTy).Contents (Elt F)),
   unary main_v21 main_v22 (broadcastInDim S1 ![] bcast_S_S1 : (⟨S_, .i32⟩ : BufTy).Contents (Elt F) → (⟨S1, .i32⟩ : BufTy).Contents (Elt F)),
   binary main_v19 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

/-- The range of the uniform draw, the two key words and each entry's counter as two words. -/
def countOps (arg0 : TRef sig ⟨S2, .i32⟩) (ψ : fn_gumbel.Bufs) (arg1 arg2 : TRef sig ⟨S_, .f32⟩) (φ : fn_uniform.Bufs) : List (Op F) :=
  [TRef.nullary ψ.cst (constant S_ .f32 0x3F800000#32),
   TRef.nullary ψ.cst_0 (constant S_ .f32 0x00800000#32)]
  ++
  [TRef.unary arg1 φ.v0 id,
   TRef.unary arg2 φ.v1 (broadcastInDim S1x1 ![] bcast_S_S1x1),
   TRef.unary φ.v0 φ.v2 (broadcastInDim S1x1 ![] bcast_S_S1x1),
   TRef.unary arg0 φ.v3 (extractStridedSlice S1 ![0] · slices_S2_S1_0),
   TRef.reshape φ.v3 φ.v4 (rfl : (.i32 : EltTy) = .i32) shapeCasts_S1_S_,
   TRef.unary arg0 φ.v5 (extractStridedSlice S1 ![1] · slices_S2_S1_1),
   TRef.reshape φ.v5 φ.v6 (rfl : (.i32 : EltTy) = .i32) shapeCasts_S1_S_,
   TRef.nullary φ.v7 (iotaInDim S16384x6 64 0),
   TRef.nullary φ.v8 (iotaInDim S16384x6 64 1),
   TRef.nullary φ.c (constantI S_ 64 6#64),
   TRef.unary φ.c φ.v9 (broadcastInDim S16384x6 ![] bcast_S_S16384x6),
   TRef.binary φ.v9 φ.v7 φ.v10 muli,
   TRef.nullary φ.c_0 (constantI S_ 64 1#64),
   TRef.unary φ.c_0 φ.v11 (broadcastInDim S16384x6 ![] bcast_S_S16384x6),
   TRef.binary φ.v11 φ.v8 φ.v12 muli,
   TRef.binary φ.v10 φ.v12 φ.v13 addi,
   TRef.nullary φ.c_1 (constantI S_ 64 32#64),
   TRef.unary φ.c_1 φ.v14 (broadcastInDim S16384x6 ![] bcast_S_S16384x6),
   TRef.binary φ.v13 φ.v14 φ.v15 Host.shrui,
   TRef.unary φ.v13 φ.v16 (trunci 32 · natLt_32_64),
   TRef.unary φ.v15 φ.v17 (trunci 32 · natLt_32_64)]

/-- The hash's two words made a uniform draw. -/
def uniformOps (φ : fn_uniform.Bufs) : List (Op F) :=
  [TRef.binary φ.call0.v171 φ.call0.v175 φ.v19 xori,
   TRef.nullary φ.c_2 (constantI S_ 32 9#32),
   TRef.unary φ.c_2 φ.v20 (broadcastInDim S16384x6 ![] bcast_S_S16384x6),
   TRef.binary φ.v19 φ.v20 φ.v21 Host.shrui,
   TRef.nullary φ.c_3 (constantI S_ 32 1065353216#32),
   TRef.unary φ.c_3 φ.v22 (broadcastInDim S16384x6 ![] bcast_S_S16384x6),
   TRef.binary φ.v21 φ.v22 φ.v23 ori,
   TRef.unary φ.v23 φ.v24 (bitcastToFloat .f32),
   TRef.nullary φ.cst (constant S_ .f32 0x3F800000#32),
   TRef.unary φ.cst φ.v25 (broadcastInDim S16384x6 ![] bcast_S_S16384x6),
   TRef.binary φ.v24 φ.v25 φ.v26 subf,
   TRef.binary φ.v2 φ.v1 φ.v27 subf,
   TRef.unary φ.v27 φ.v28 (broadcastInDim S16384x6 ![0, 1] bcast_S1x1_S16384x6_0_1),
   TRef.binary φ.v26 φ.v28 φ.v29 mulf,
   TRef.unary φ.v1 φ.v30 (broadcastInDim S16384x6 ![0, 1] bcast_S1x1_S16384x6_0_1),
   TRef.binary φ.v29 φ.v30 φ.v31 addf,
   TRef.unary φ.v1 φ.v32 (broadcastInDim S16384x6 ![0, 1] bcast_S1x1_S16384x6_0_1),
   TRef.binary φ.v32 φ.v31 φ.v33 maximumf]

/-- A uniform draw made Gumbel noise. -/
def noiseOps (φ : fn_gumbel.Bufs) : List (Op F) :=
  [TRef.unary φ.call0.v33 φ.v1 Host.log,
   TRef.unary φ.v1 φ.v2 Host.negf,
   TRef.unary φ.v2 φ.v3 Host.log,
   TRef.unary φ.v3 φ.v4 Host.negf]

/-- The noise added to the logits. -/
def scoreOps : List (Op F) :=
  [binary main_v24 main_v4 main_v25 (addf : (⟨S16384x6, .f32⟩ : BufTy).Contents (Elt F) → (⟨S16384x6, .f32⟩ : BufTy).Contents (Elt F) → (⟨S16384x6, .f32⟩ : BufTy).Contents (Elt F))]

/-- The arg-max of each row of scores. -/
def argmaxOps (arg0 : TRef sig ⟨S16384x6, .f32⟩) (φ : fn_argmax.Bufs) : List (Op F) :=
  [TRef.nullary φ.v0 (iotaInDim S16384x6 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S16384x6_S16384_d1 h_S_ j).1),
   TRef.quaternary arg0 φ.v0 φ.cst φ.c φ.v1_1 (fun x y u v j => (Host.argReduce reducer_argmax_f32_i32 x y u v reducesTo_S16384x6_S16384_d1 h_S_ j).2)]

/-- The one-hot row of each index. -/
def oneHotOps (arg0 : TRef sig ⟨S16384, .i32⟩) (φ : fn_one_hot.Bufs) : List (Op F) :=
  [TRef.unary arg0 φ.v0 (broadcastInDim S16384x1 ![0] bcast_S16384_S16384x1_0),
   TRef.nullary φ.v1 (iotaInDim S1x6 32 1),
   TRef.unary φ.v0 φ.v2 (broadcastInDim S16384x6 ![0, 1] bcast_S16384x1_S16384x6_0_1),
   TRef.unary φ.v1 φ.v3 (broadcastInDim S16384x6 ![0, 1] bcast_S1x6_S16384x6_0_1),
   TRef.binary φ.v2 φ.v3 φ.v4 (cmpi .eq),
   TRef.unary φ.v4 φ.v5 (uitofp .f32)]

/-- The eligibility and the entropy: the end of the reference. -/
def resultOps : List (Op F) :=
  [binary main_v27 main_v16 main_v28 (mulf : (⟨S16384x6, .f32⟩ : BufTy).Contents (Elt F) → (⟨S16384x6, .f32⟩ : BufTy).Contents (Elt F) → (⟨S16384x6, .f32⟩ : BufTy).Contents (Elt F)),
   nullary main_cst_4 (constant S_ .f32 0x00000000#32),
   binary main_v28 main_cst_4 main_v29 ((fun x v => Host.reduceAdd x v reducesTo_S16384x6_S16384_d1 h_S_) : (⟨S16384x6, .f32⟩ : BufTy).Contents (Elt F) → (⟨S_, .f32⟩ : BufTy).Contents (Elt F) → (⟨S16384, .f32⟩ : BufTy).Contents (Elt F)),
   nullary main_cst_5 (constant S_ .f32 0x322BCC77#32),
   unary main_cst_5 main_v30 (broadcastInDim S16384x6 ![] bcast_S_S16384x6 : (⟨S_, .f32⟩ : BufTy).Contents (Elt F) → (⟨S16384x6, .f32⟩ : BufTy).Contents (Elt F)),
   binary main_v15 main_v30 main_v31 (addf : (⟨S16384x6, .f32⟩ : BufTy).Contents (Elt F) → (⟨S16384x6, .f32⟩ : BufTy).Contents (Elt F) → (⟨S16384x6, .f32⟩ : BufTy).Contents (Elt F)),
   unary main_v31 main_v32 (Host.negf : (⟨S16384x6, .f32⟩ : BufTy).Contents (Elt F) → (⟨S16384x6, .f32⟩ : BufTy).Contents (Elt F)),
   unary main_v31 main_v33 (Host.log : (⟨S16384x6, .f32⟩ : BufTy).Contents (Elt F) → (⟨S16384x6, .f32⟩ : BufTy).Contents (Elt F)),
   binary main_v32 main_v33 main_v34 (mulf : (⟨S16384x6, .f32⟩ : BufTy).Contents (Elt F) → (⟨S16384x6, .f32⟩ : BufTy).Contents (Elt F) → (⟨S16384x6, .f32⟩ : BufTy).Contents (Elt F)),
   nullary main_cst_6 (constant S_ .f32 0x00000000#32),
   binary main_v34 main_cst_6 main_v35 ((fun x v => Host.reduceAdd x v reducesTo_S16384x6_S16384_d1 h_S_) : (⟨S16384x6, .f32⟩ : BufTy).Contents (Elt F) → (⟨S_, .f32⟩ : BufTy).Contents (Elt F) → (⟨S16384, .f32⟩ : BufTy).Contents (Elt F)),
   nullary main_cst_7 (constant S_ .f32 0x00000000#32),
   binary main_v35 main_cst_7 main_v36 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F))]

/-- The whole reference. -/
def ops : List (Op F) :=
  logitOps ++ probOps ++ logSoftmaxOps (.of main_v4) main_call0 ++ keyOps
  ++ countOps (.of main_v23) main_call1 main_call1.cst main_call1.cst_0 main_call1.call0
  ++ threefry main_call1.call0.v4 main_call1.call0.v6 main_call1.call0.v17 main_call1.call0.v16 main_call1.call0.call0
  ++ uniformOps main_call1.call0 ++ noiseOps main_call1 ++ scoreOps
  ++ argmaxOps (.of main_v25) main_call2 ++ oneHotOps (.of main_v26) main_call3 ++ resultOps

/-- The reference as a program. -/
abbrev P (F : FTy → Type) [FloatOps F] := Prog (TpuEff nD τ sig (Elt F) (Pipeline.Sig Λ₀ (Fin 0) fun p => (pcfgs (F := F) p).Adm) .tc) PUnit

/-- One operation is the list of itself. -/
theorem isSeq_one {op : Op F} : IsSeq (hlo rfl op fun _ => .ret (⟨⟩ : PUnit) : P F) [op] := rfl

/-- How operations are bracketed does not matter. -/
theorem isSeq_assoc {p q r : P F} {l : List (Op F)} (h : IsSeq (p >>= fun _ => q >>= fun _ => r) l) :
    IsSeq ((p >>= fun _ => q) >>= fun _ => r) l := by
  rw [bind_assoc]; exact h

/-- A step that does nothing may be left out. -/
theorem isSeq_skip {q : P F} {l : List (Op F)} (h : IsSeq q l) : IsSeq ((pure ⟨⟩ : P F) >>= fun _ => q) l := by
  rw [pure_bind]; exact h

set_option maxHeartbeats 4000000 in
/-- The reference's entry function is its operation list, run in order. -/
theorem main_seq (d : Dev nD) : IsSeq (main (F := F) d) ops := by
  delta ops logitOps probOps logSoftmaxOps keyOps countOps threefry head round inject uniformOps noiseOps scoreOps argmaxOps oneHotOps resultOps
  simp only [List.cons_append, List.nil_append, List.append_assoc]
  delta main fn_log_softmax.body fn_gumbel.body fn_uniform.body fn_argmax.body fn_one_hot.body fn_threefry2x32.body
    fn_threefry2x32.body_part0 fn_threefry2x32.body_part1 fn_threefry2x32.body_part2 fn_threefry2x32.body_part3
  repeat (with_reducible first | apply isSeq_assoc | apply isSeq_skip | apply IsSeq.cons | exact IsSeq.nil | exact isSeq_one)

end Cert.ReferenceIdeal.Own
end
-- ==== Proof.RefHash.lean ====
module

public import proofs.«01_k».proof.Proof.RefOps
public import proofs.«01_k».proof.Proof.Words

@[expose] public section
noncomputable section

/-! The reference's hash: what its operation list leaves, as the hash of each entry's pair of words. -/

namespace Cert.ReferenceIdeal.Own

open Idealize.ShloMosaic Idealize.SL.Sem Idealize.ShloMosaic.StableHlo Cert.ReferenceIdeal
open Facts₀

variable {F : FTy → Type} [FloatOps F] [Facts]

/-- The buffers' contents. -/
abbrev Vals (F : FTy → Type) := Valuation τ sig (Elt F)

/-- The value in a typed buffer. -/
def rd (V : Vals F) {T : BufTy} (x : TRef sig T) : T.Contents (Elt F) := x.ofBuf (V (Proc.devRef .tc x.ref))

/-- What is put into a typed buffer is read back from it. -/
theorem ofBuf_toBuf {T : BufTy} (y : TRef sig T) (v : T.Contents (Elt F)) : y.ofBuf (y.toBuf v) = v := by
  simp [TRef.ofBuf, TRef.toBuf]

/-- A constant's buffer holds the constant. -/
theorem rd_nullary (V : Vals F) {T : BufTy} (y : TRef sig T) (v : T.Contents (Elt F)) :
    rd ((TRef.nullary y v).result V) y = v := by
  unfold rd; rw [nullary_result', ofBuf_toBuf]

/-- A one-operand operation's buffer holds its function of the operand. -/
theorem rd_unary (V : Vals F) {S T : BufTy} (x : TRef sig S) (y : TRef sig T) (f : S.Contents (Elt F) → T.Contents (Elt F)) :
    rd ((TRef.unary x y f).result V) y = f (rd V x) := by
  unfold rd; rw [unary_result', ofBuf_toBuf]

/-- A two-operand operation's buffer holds its function of the operands. -/
theorem rd_binary (V : Vals F) {R S T : BufTy} (a : TRef sig R) (b : TRef sig S) (y : TRef sig T)
    (f : R.Contents (Elt F) → S.Contents (Elt F) → T.Contents (Elt F)) :
    rd ((TRef.binary a b y f).result V) y = f (rd V a) (rd V b) := by
  unfold rd; rw [binary_result', ofBuf_toBuf]

/-- An operation leaves every buffer but its own as it was. -/
theorem rd_ne (V : Vals F) {T : BufTy} (x : TRef sig T) {op : Op F} {y : Ref sig .tc} (hw : op.writes = {Proc.devRef .tc y})
    (h : x.ref ≠ y) : rd (op.result V) x = rd V x := by
  unfold rd
  rw [op.result_of_not_mem V]
  rw [hw, Finset.mem_singleton]
  exact fun e => h (Proc.devRef_injective _ e)

/-- The same of a constant. -/
theorem rd_nullary_ne (V : Vals F) {S T : BufTy} (z : TRef sig S) (y : TRef sig T) (v : T.Contents (Elt F)) (h : z.ref ≠ y.ref) :
    rd ((TRef.nullary y v).result V) z = rd V z := rd_ne V z rfl h

/-- The same of a one-operand operation. -/
theorem rd_unary_ne (V : Vals F) {R S T : BufTy} (z : TRef sig R) (x : TRef sig S) (y : TRef sig T)
    (f : S.Contents (Elt F) → T.Contents (Elt F)) (h : z.ref ≠ y.ref) : rd ((TRef.unary x y f).result V) z = rd V z := rd_ne V z rfl h

/-- The same of a two-operand operation. -/
theorem rd_binary_ne (V : Vals F) {Q R S T : BufTy} (z : TRef sig Q) (a : TRef sig R) (b : TRef sig S) (y : TRef sig T)
    (f : R.Contents (Elt F) → S.Contents (Elt F) → T.Contents (Elt F)) (h : z.ref ≠ y.ref) :
    rd ((TRef.binary a b y f).result V) z = rd V z := rd_ne V z rfl h

/-- Two buffers hold the pair `g i` at each entry `i`, and three hold the key words. -/
structure Holds (V : Vals F) (k₀ k₁ k₂ : Word) (a b c : BitVec 32) (x y : Words) (g : S16384x6.Idx → Draw.Pair) : Prop where
  fst : ∀ i, rd V x i = (g i).1
  snd : ∀ i, rd V y i = (g i).2
  key₀ : ∀ i, rd V k₀ i = a
  key₁ : ∀ i, rd V k₁ i = b
  key₂ : ∀ i, rd V k₂ i = c

/-- Two lists in a row: the second runs on what the first leaves. -/
theorem after_append (l₁ l₂ : List (Op F)) (V : Vals F) : after (l₁ ++ l₂) V = after l₂ (after l₁ V) := by
  induction l₁ generalizing V with
  | nil => rfl
  | cons op l ih => exact ih _

/-- A round's operations take buffers that hold a pair at each entry to buffers that hold the mixed pair. -/
theorem holds_round {V : Vals F} {k₀ k₁ k₂ : Word} {a₀ a₁ a₂ : BitVec 32} {x₀ x₁ : Words} {g : S16384x6.Idx → Draw.Pair}
    (H : Holds V k₀ k₁ k₂ a₀ a₁ a₂ x₀ x₁ g) (n k : BitVec 32) (hn : n.toNat < 32) (hk : k.toNat < 32)
    (s : Words) (c : Word) (b l : Words) (d : Word) (e r o y : Words)
    (hd : [k₀.ref, k₁.ref, k₂.ref, x₀.ref, x₁.ref, s.ref, c.ref, b.ref, l.ref, d.ref, e.ref, r.ref, o.ref, y.ref].Nodup) :
    Holds (after (round n k x₀ x₁ s c b l d e r o y) V) k₀ k₁ k₂ a₀ a₁ a₂ s y (fun i => Draw.mix n k (g i)) := by
  simp only [List.nodup_cons, List.mem_cons, List.not_mem_nil, not_or, or_false, List.nodup_nil, and_true, not_false_eq_true] at hd
  unfold round
  simp only [after_cons, after_nil]
  constructor <;>
  · simp only [rd_nullary, rd_unary, rd_binary, rd_nullary_ne, rd_unary_ne, rd_binary_ne, hd, ne_eq, not_false_eq_true]
    intro i
    simp [addi, xori, ori, Host.shli, Host.shrui, constantI, broadcastInDim, IntOp.addi, IntOp.xori, IntOp.ori, IntOp.shli, IntOp.shrui,
      Draw.mix, H.fst, H.snd, H.key₀, H.key₁, H.key₂, hn, hk]

/-- A key injection's operations take buffers that hold a pair at each entry to buffers that hold the injected pair. -/
theorem holds_inject {V : Vals F} {k₀ k₁ k₂ : Word} {a₀ a₁ a₂ : BitVec 32} {x₀ x₁ : Words} {g : S16384x6.Idx → Draw.Pair}
    (H : Holds V k₀ k₁ k₂ a₀ a₁ a₂ x₀ x₁ g) (n : BitVec 32) {p q : Word} {u v : BitVec 32}
    (hp : ∀ i, rd V p i = u) (hq : ∀ i, rd V q i = v) (b s e t : Words) (c : Word) (a y : Words)
    (hd : [k₀.ref, k₁.ref, k₂.ref, x₀.ref, x₁.ref, b.ref, s.ref, e.ref, t.ref, c.ref, a.ref, y.ref].Nodup)
    (hpd : p.ref ∉ [b.ref, s.ref, e.ref, t.ref, c.ref, a.ref, y.ref]) (hqd : q.ref ∉ [b.ref, s.ref, e.ref, t.ref, c.ref, a.ref, y.ref]) :
    Holds (after (inject n p q x₀ x₁ b s e t c a y) V) k₀ k₁ k₂ a₀ a₁ a₂ s y (fun i => Draw.inj n u v (g i)) := by
  simp only [List.nodup_cons, List.mem_cons, List.not_mem_nil, not_or, or_false, List.nodup_nil, and_true, not_false_eq_true] at hd hpd hqd
  unfold inject
  simp only [after_cons, after_nil]
  constructor <;>
  · simp only [rd_nullary, rd_unary, rd_binary, rd_nullary_ne, rd_unary_ne, rd_binary_ne, hd, hpd, hqd, ne_eq, not_false_eq_true]
    intro i
    simp [addi, constantI, broadcastInDim, IntOp.addi, Draw.inj, H.fst, H.snd, H.key₀, H.key₁, H.key₂, hp, hq]

/-- The hash's first seven operations: the third key word, and the first injection. -/
theorem holds_head {V : Vals F} {k₀ k₁ : Word} {x₀ x₁ : Words} {φ : fn_threefry2x32.Bufs} {a b : BitVec 32} {g : S16384x6.Idx → Draw.Pair}
    (hx : ∀ i, rd V x₀ i = (g i).1) (hy : ∀ i, rd V x₁ i = (g i).2) (ha : ∀ i, rd V k₀ i = a) (hb : ∀ i, rd V k₁ i = b)
    (hd : [k₀.ref, k₁.ref, x₀.ref, x₁.ref, φ.v0.ref, φ.c.ref, φ.v1.ref, φ.v2.ref, φ.v3.ref, φ.v4.ref, φ.v5.ref].Nodup) :
    Holds (after (head k₀ k₁ x₀ x₁ φ) V) k₀ k₁ φ.v1 a b ((a ^^^ b) ^^^ 466688986#32) φ.v3 φ.v5 (fun i => Draw.inj 0#32 a b (g i)) := by
  simp only [List.nodup_cons, List.mem_cons, List.not_mem_nil, not_or, or_false, List.nodup_nil, and_true, not_false_eq_true] at hd
  unfold head
  simp only [after_cons, after_nil]
  constructor <;>
  · simp only [rd_nullary, rd_unary, rd_binary, rd_nullary_ne, rd_unary_ne, rd_binary_ne, hd, ne_eq, not_false_eq_true]
    intro i
    simp [addi, xori, constantI, broadcastInDim, IntOp.addi, IntOp.xori, Draw.inj, hx, hy, ha, hb]

/-- The buffers of the one call of the hash. -/
abbrev hbufs : fn_threefry2x32.Bufs := main_call1.call0.call0

/-- The hash's list, at the buffers of its one call. -/
abbrev hashOps : List (Op F) := threefry main_call1.call0.v4 main_call1.call0.v6 main_call1.call0.v17 main_call1.call0.v16 hbufs

/-- After the hash's operations its two result buffers hold the hash of each entry's pair of words. -/
theorem holds_hash {V : Vals F} {a b : BitVec 32} {g : S16384x6.Idx → Draw.Pair}
    (hx : ∀ i, rd V main_call1.call0.v17 i = (g i).1) (hy : ∀ i, rd V main_call1.call0.v16 i = (g i).2)
    (ha : ∀ i, rd V main_call1.call0.v4 i = a) (hb : ∀ i, rd V main_call1.call0.v6 i = b) :
    Holds (after hashOps V) main_call1.call0.v4 main_call1.call0.v6 hbufs.v1 a b ((a ^^^ b) ^^^ 466688986#32) hbufs.v171 hbufs.v175
      (fun i => Draw.hash a b ((a ^^^ b) ^^^ 466688986#32) (g i)) := by
  have H := holds_head (φ := hbufs) hx hy ha hb (by decide)
  have H := holds_round H 13#32 19#32 (by decide) (by decide) hbufs.v6 hbufs.c_0 hbufs.v7 hbufs.v8 hbufs.c_1 hbufs.v9 hbufs.v10 hbufs.v11 hbufs.v12 (by decide)
  have H := holds_round H 15#32 17#32 (by decide) (by decide) hbufs.v13 hbufs.c_2 hbufs.v14 hbufs.v15 hbufs.c_3 hbufs.v16 hbufs.v17 hbufs.v18 hbufs.v19 (by decide)
  have H := holds_round H 26#32 6#32 (by decide) (by decide) hbufs.v20 hbufs.c_4 hbufs.v21 hbufs.v22 hbufs.c_5 hbufs.v23 hbufs.v24 hbufs.v25 hbufs.v26 (by decide)
  have H := holds_round H 6#32 26#32 (by decide) (by decide) hbufs.v27 hbufs.c_6 hbufs.v28 hbufs.v29 hbufs.c_7 hbufs.v30 hbufs.v31 hbufs.v32 hbufs.v33 (by decide)
  have H := holds_inject H 1#32 H.key₁ H.key₂ hbufs.v34 hbufs.v35 hbufs.v36 hbufs.v37 hbufs.c_8 hbufs.v38 hbufs.v39 (by decide) (by decide) (by decide)
  have H := holds_round H 17#32 15#32 (by decide) (by decide) hbufs.v40 hbufs.c_9 hbufs.v41 hbufs.v42 hbufs.c_10 hbufs.v43 hbufs.v44 hbufs.v45 hbufs.v46 (by decide)
  have H := holds_round H 29#32 3#32 (by decide) (by decide) hbufs.v47 hbufs.c_11 hbufs.v48 hbufs.v49 hbufs.c_12 hbufs.v50 hbufs.v51 hbufs.v52 hbufs.v53 (by decide)
  have H := holds_round H 16#32 16#32 (by decide) (by decide) hbufs.v54 hbufs.c_13 hbufs.v55 hbufs.v56 hbufs.c_14 hbufs.v57 hbufs.v58 hbufs.v59 hbufs.v60 (by decide)
  have H := holds_round H 24#32 8#32 (by decide) (by decide) hbufs.v61 hbufs.c_15 hbufs.v62 hbufs.v63 hbufs.c_16 hbufs.v64 hbufs.v65 hbufs.v66 hbufs.v67 (by decide)
  have H := holds_inject H 2#32 H.key₂ H.key₀ hbufs.v68 hbufs.v69 hbufs.v70 hbufs.v71 hbufs.c_17 hbufs.v72 hbufs.v73 (by decide) (by decide) (by decide)
  have H := holds_round H 13#32 19#32 (by decide) (by decide) hbufs.v74 hbufs.c_18 hbufs.v75 hbufs.v76 hbufs.c_19 hbufs.v77 hbufs.v78 hbufs.v79 hbufs.v80 (by decide)
  have H := holds_round H 15#32 17#32 (by decide) (by decide) hbufs.v81 hbufs.c_20 hbufs.v82 hbufs.v83 hbufs.c_21 hbufs.v84 hbufs.v85 hbufs.v86 hbufs.v87 (by decide)
  have H := holds_round H 26#32 6#32 (by decide) (by decide) hbufs.v88 hbufs.c_22 hbufs.v89 hbufs.v90 hbufs.c_23 hbufs.v91 hbufs.v92 hbufs.v93 hbufs.v94 (by decide)
  have H := holds_round H 6#32 26#32 (by decide) (by decide) hbufs.v95 hbufs.c_24 hbufs.v96 hbufs.v97 hbufs.c_25 hbufs.v98 hbufs.v99 hbufs.v100 hbufs.v101 (by decide)
  have H := holds_inject H 3#32 H.key₀ H.key₁ hbufs.v102 hbufs.v103 hbufs.v104 hbufs.v105 hbufs.c_26 hbufs.v106 hbufs.v107 (by decide) (by decide) (by decide)
  have H := holds_round H 17#32 15#32 (by decide) (by decide) hbufs.v108 hbufs.c_27 hbufs.v109 hbufs.v110 hbufs.c_28 hbufs.v111 hbufs.v112 hbufs.v113 hbufs.v114 (by decide)
  have H := holds_round H 29#32 3#32 (by decide) (by decide) hbufs.v115 hbufs.c_29 hbufs.v116 hbufs.v117 hbufs.c_30 hbufs.v118 hbufs.v119 hbufs.v120 hbufs.v121 (by decide)
  have H := holds_round H 16#32 16#32 (by decide) (by decide) hbufs.v122 hbufs.c_31 hbufs.v123 hbufs.v124 hbufs.c_32 hbufs.v125 hbufs.v126 hbufs.v127 hbufs.v128 (by decide)
  have H := holds_round H 24#32 8#32 (by decide) (by decide) hbufs.v129 hbufs.c_33 hbufs.v130 hbufs.v131 hbufs.c_34 hbufs.v132 hbufs.v133 hbufs.v134 hbufs.v135 (by decide)
  have H := holds_inject H 4#32 H.key₁ H.key₂ hbufs.v136 hbufs.v137 hbufs.v138 hbufs.v139 hbufs.c_35 hbufs.v140 hbufs.v141 (by decide) (by decide) (by decide)
  have H := holds_round H 13#32 19#32 (by decide) (by decide) hbufs.v142 hbufs.c_36 hbufs.v143 hbufs.v144 hbufs.c_37 hbufs.v145 hbufs.v146 hbufs.v147 hbufs.v148 (by decide)
  have H := holds_round H 15#32 17#32 (by decide) (by decide) hbufs.v149 hbufs.c_38 hbufs.v150 hbufs.v151 hbufs.c_39 hbufs.v152 hbufs.v153 hbufs.v154 hbufs.v155 (by decide)
  have H := holds_round H 26#32 6#32 (by decide) (by decide) hbufs.v156 hbufs.c_40 hbufs.v157 hbufs.v158 hbufs.c_41 hbufs.v159 hbufs.v160 hbufs.v161 hbufs.v162 (by decide)
  have H := holds_round H 6#32 26#32 (by decide) (by decide) hbufs.v163 hbufs.c_42 hbufs.v164 hbufs.v165 hbufs.c_43 hbufs.v166 hbufs.v167 hbufs.v168 hbufs.v169 (by decide)
  have H := holds_inject H 5#32 H.key₂ H.key₀ hbufs.v170 hbufs.v171 hbufs.v172 hbufs.v173 hbufs.c_44 hbufs.v174 hbufs.v175 (by decide) (by decide) (by decide)
  unfold hashOps threefry
  simp only [after_append]
  exact H

end Cert.ReferenceIdeal.Own
end
-- ==== Proof.RefKeep.lean ====
module

public import proofs.«01_k».proof.Proof.RefHash

@[expose] public section
noncomputable section

/-! The reference numbers its buffers in the order it writes them, so each stretch of its operations keeps every buffer of
    a smaller number. -/

namespace Cert.ReferenceIdeal.Own

open Idealize.ShloMosaic Idealize.SL.Sem Idealize.ShloMosaic.StableHlo Cert.ReferenceIdeal
open Facts₀

variable {F : FTy → Type} [FloatOps F] [Facts]

/-- Every operation of `l` writes one buffer, of number `n` or more. -/
def From (n : ℕ) (l : List (Op F)) : Prop := ∀ op ∈ l, ∃ y : Ref sig .tc, op.writes = {Proc.devRef .tc y} ∧ n ≤ y.idx.val

/-- The empty list writes nothing. -/
theorem from_nil (n : ℕ) : From n ([] : List (Op F)) := fun _ h => absurd h List.not_mem_nil

/-- An operation writing at or after place `n`, put before a list that does so. -/
theorem from_cons {n : ℕ} {op : Op F} {l : List (Op F)} {y : Ref sig .tc} (hw : op.writes = {Proc.devRef .tc y})
    (hn : n ≤ y.idx.val) (h : From n l) : From n (op :: l) := fun o ho => by
  rcases List.mem_cons.1 ho with rfl | ho
  · exact ⟨y, hw, hn⟩
  · exact h o ho

/-- Two such lists in a row. -/
theorem from_append {n : ℕ} {l₁ l₂ : List (Op F)} (h₁ : From n l₁) (h₂ : From n l₂) : From n (l₁ ++ l₂) := fun o ho =>
  (List.mem_append.1 ho).elim (h₁ o) (h₂ o)

/-- A list that writes from a later place on also writes from an earlier place on. -/
theorem from_mono {n k : ℕ} (hk : k ≤ n) {l : List (Op F)} (h : From n l) : From k l := fun o ho =>
  (h o ho).imp fun _ e => ⟨e.1, hk.trans e.2⟩

/-- A buffer of a smaller number is kept. -/
theorem keep {n : ℕ} {l : List (Op F)} (h : From n l) (V : Vals F) (r : Ref sig .tc) (hr : r.idx.val < n) :
    after l V (Proc.devRef .tc r) = V (Proc.devRef .tc r) :=
  after_of_forall_not_mem l V fun op ho hb => by
    obtain ⟨y, hw, hn⟩ := h op ho
    rw [hw, Finset.mem_singleton] at hb
    have e := Proc.devRef_injective _ hb
    rw [e] at hr
    omega

/-- Where the logits' stretch begins to write; likewise for each stretch below. -/
theorem from_logit : From 3 (logitOps (F := F)) := by
  delta logitOps
  repeat (with_reducible first | exact from_nil _ | refine from_cons rfl (by decide) ?_)

theorem from_prob : From 8 (probOps (F := F)) := by
  delta probOps
  repeat (with_reducible first | exact from_nil _ | refine from_cons rfl (by decide) ?_)

theorem from_logSoftmax : From 22 (logSoftmaxOps (F := F) (.of main_v4) main_call0) := by
  delta logSoftmaxOps
  repeat (with_reducible first | exact from_nil _ | refine from_cons rfl (by decide) ?_)

theorem from_key : From 37 (keyOps (F := F)) := by
  delta keyOps
  repeat (with_reducible first | exact from_nil _ | refine from_cons rfl (by decide) ?_)

theorem from_count : From 47 (countOps (F := F) (.of main_v23) main_call1 main_call1.cst main_call1.cst_0 main_call1.call0) := by
  delta countOps
  simp only [List.cons_append, List.nil_append]
  repeat (with_reducible first | exact from_nil _ | refine from_cons rfl (by decide) ?_)

theorem from_hash : From 70 (hashOps (F := F)) := by
  delta hashOps threefry head round inject
  simp only [List.cons_append, List.nil_append, List.append_assoc]
  repeat (with_reducible first | exact from_nil _ | refine from_cons rfl (by decide) ?_)

theorem from_uniform : From 292 (uniformOps (F := F) main_call1.call0) := by
  delta uniformOps
  repeat (with_reducible first | exact from_nil _ | refine from_cons rfl (by decide) ?_)

theorem from_noise : From 309 (noiseOps (F := F) main_call1) := by
  delta noiseOps
  repeat (with_reducible first | exact from_nil _ | refine from_cons rfl (by decide) ?_)

theorem from_score : From 314 (scoreOps (F := F)) := by
  delta scoreOps
  repeat (with_reducible first | exact from_nil _ | refine from_cons rfl (by decide) ?_)

theorem from_argmax : From 315 (argmaxOps (F := F) (.of main_v25) main_call2) := by
  delta argmaxOps
  repeat (with_reducible first | exact from_nil _ | refine from_cons rfl (by decide) ?_)

theorem from_oneHot : From 320 (oneHotOps (F := F) (.of main_v26) main_call3) := by
  delta oneHotOps
  repeat (with_reducible first | exact from_nil _ | refine from_cons rfl (by decide) ?_)

theorem from_result : From 326 (resultOps (F := F)) := by
  delta resultOps
  repeat (with_reducible first | exact from_nil _ | refine from_cons rfl (by decide) ?_)

end Cert.ReferenceIdeal.Own
end
-- ==== Proof.RefSearch.lean ====
module

public import proofs.«01_k».proof.Proof.RefKeep
public import proofs.«01_k».proof.Proof.Rows
public import Idealize.ShloMosaic.Lib.Pointwise
public import Idealize.ShloMosaic.PureOps.Ideal.Laws

@[expose] public section
noncomputable section

/-! The reference's arg-max over the classes is the search `Draw.best`: its fold runs over a row in class order, and each of its steps keeps the greater
entry, the earlier one on a tie. -/

namespace Cert.ReferenceIdeal.Own

open Idealize.ShloMosaic Cert.ReferenceIdeal
open Facts₀

variable [Facts]

/-- A row's place in the array, entry by entry: entry `c` of row `r` is number `6 * r + c`. -/
def place (r : Fin 16384) (c : Fin 6) : Fin S16384x6.numel := ⟨6 * r.val + c.val, by
  have h : S16384x6.numel = 98304 := by decide
  omega⟩

/-- The entry at that place is entry `c` of row `r`. -/
theorem symm_place (r : Fin 16384) (c : Fin 6) : S16384x6.rowMajor.symm (place r c) = ix2 r c := by
  rw [Equiv.symm_apply_eq]
  refine Fin.ext ?_
  rw [Shape.rowMajor_val_two]
  show 6 * r.val + c.val = r.val * 6 + c.val
  omega

/-- An entry belongs to row `r` just when it lies at one of the row's six places. -/
theorem mem_row (r : Fin 16384) (n : Fin S16384x6.numel) :
    reducesTo_S16384x6_S16384_d1.drop (S16384x6.rowMajor.symm n) = ix1 r ↔ ∃ c, place r c = n := by
  constructor
  · intro h
    have h0 : ((S16384x6.rowMajor.symm n) 0).val = r.val :=
      (Shape.ReducesTo.drop_apply_val_of_eq reducesTo_S16384x6_S16384_d1 (S16384x6.rowMajor.symm n) 0 0).symm.trans
        (congrArg Fin.val (congrFun h 0))
    refine ⟨(S16384x6.rowMajor.symm n) 1, Fin.ext ?_⟩
    have e := Shape.rowMajor_val_two (S16384x6.rowMajor.symm n)
    rw [Equiv.apply_symm_apply] at e
    rw [e, h0]
    show 6 * r.val + _ = r.val * 6 + _
    omega
  · rintro ⟨c, rfl⟩
    rw [symm_place]
    funext d
    match d with
    | ⟨0, _⟩ => exact Fin.ext (Shape.ReducesTo.drop_apply_val_of_eq reducesTo_S16384x6_S16384_d1 (ix2 r c) 0 0)

/-- The entries of a row, in the order the array holds them. -/
theorem row_places (r : Fin 16384) :
    ((List.finRange S16384x6.numel).filter fun n => reducesTo_S16384x6_S16384_d1.drop (S16384x6.rowMajor.symm n) = ix1 r)
      = (List.finRange 6).map (place r) := by
  refine List.Perm.eq_of_sortedLE ?_ ?_ ?_
  · exact ((List.sortedLT_finRange _).pairwise.filter _ |>.imp le_of_lt).sortedLE
  · refine (List.Pairwise.map _ (fun a b (h : a < b) => ?_) (List.sortedLT_finRange 6).pairwise).sortedLE
    show 6 * r.val + a.val ≤ 6 * r.val + b.val
    omega
  · refine (List.perm_ext_iff_of_nodup ((List.nodup_finRange _).filter _) ((List.nodup_finRange 6).map ?_)).2 fun n => ?_
    · intro a b h
      have := congrArg Fin.val h
      simp only [place] at this
      exact Fin.ext (by omega)
    · simp [mem_row]

/-- One step of the reference's fold, from an index before `c`: the search's step. -/
theorem step_eq (s : Draw.Row) (c : Fin 6) (p : EReal × BitVec 32) (k : Fin 6) (hk : k < c) (hp : p.2 = BitVec.ofNat 32 k.val) :
    reducer_argmax_f32_i32 (F := Ideal) p (s c, BitVec.ofNat 32 c.val) = Draw.better s p c := by
  have hs : IntOp.cmpi .slt (BitVec.ofNat 32 k.val) (BitVec.ofNat 32 c.val) = 1#1 := by
    clear hp
    revert k c
    decide
  obtain ⟨b, i⟩ := p
  subst hp
  unfold reducer_argmax_f32_i32 Draw.better
  simp only [Ideal.cmpf_def, Ideal.cmp, hs]
  rcases lt_trichotomy b (s c) with h | h | h
  · simp [h, h.ne, h.not_gt, Scalar.select, IntOp.ori, IntOp.andi]
  · simp [h, Scalar.select, IntOp.ori, IntOp.andi]
  · simp [h, h.ne', h.not_gt, Scalar.select, IntOp.ori, IntOp.andi]

/-- After a step the index is that of a class no later than the step's. -/
theorem better_index (s : Draw.Row) (c : Fin 6) (p : EReal × BitVec 32) (k : Fin 6) (hk : k < c) (hp : p.2 = BitVec.ofNat 32 k.val) :
    ∃ k' : Fin 6, k' ≤ c ∧ (Draw.better s p c).2 = BitVec.ofNat 32 k'.val := by
  unfold Draw.better
  split
  · exact ⟨c, le_rfl, rfl⟩
  · exact ⟨k, hk.le, hp⟩

/-- The first step, from the least value there is: the row's first entry. -/
theorem first_eq (s : Draw.Row) :
    reducer_argmax_f32_i32 (F := Ideal) (Ideal.ofBits .f32 0xFF800000#32, 0#32) (s 0, 0#32) = (s 0, 0#32) := by
  unfold reducer_argmax_f32_i32
  simp only [Ideal.cmpf_def, Ideal.cmp, Draw.bot_bits]
  rcases eq_or_ne (s 0) ⊥ with h | h
  · simp [h, Scalar.select, IntOp.ori, IntOp.andi, IntOp.cmpi]
  · simp [h, Scalar.select, IntOp.ori, IntOp.andi, IntOp.cmpi]

/-- The reference's fold over a row's six pairs, from the least value there is, ends at the index of the search. -/
theorem search_eq (s : Draw.Row) :
    (((List.finRange 6).map fun c => (s c, BitVec.ofNat 32 c.val)).foldl (reducer_argmax_f32_i32 (F := Ideal))
      (Ideal.ofBits .f32 0xFF800000#32, 0#32)).2 = Draw.best s := by
  have l : List.finRange 6 = [0, 1, 2, 3, 4, 5] := by decide
  rw [l]
  simp only [List.map_cons, List.map_nil, List.foldl_cons, List.foldl_nil]
  rw [show reducer_argmax_f32_i32 (F := Ideal) (Ideal.ofBits .f32 0xFF800000#32, 0#32) (s 0, BitVec.ofNat 32 (0 : Fin 6).val) = _ from first_eq s]
  rw [step_eq s 1 (s 0, 0#32) 0 (by decide) rfl]
  obtain ⟨k, hk, e⟩ := better_index s 1 (s 0, 0#32) 0 (by decide) rfl
  rw [step_eq s 2 _ k (lt_of_le_of_lt hk (by decide)) e]
  obtain ⟨k, hk, e⟩ := better_index s 2 _ k (lt_of_le_of_lt hk (by decide)) e
  rw [step_eq s 3 _ k (lt_of_le_of_lt hk (by decide)) e]
  obtain ⟨k, hk, e⟩ := better_index s 3 _ k (lt_of_le_of_lt hk (by decide)) e
  rw [step_eq s 4 _ k (lt_of_le_of_lt hk (by decide)) e]
  obtain ⟨k, hk, e⟩ := better_index s 4 _ k (lt_of_le_of_lt hk (by decide)) e
  rw [step_eq s 5 _ k (lt_of_le_of_lt hk (by decide)) e]
  rfl

/-- The reference's arg-max at a row. -/
theorem argReduce_at (v : S16384x6.Idx → Ideal .f32) (r : Fin 16384) :
    (Host.argReduce reducer_argmax_f32_i32 v (iotaInDim S16384x6 32 1) (constant S_ .f32 0xFF800000#32) (constantI S_ 32 0#32)
      reducesTo_S16384x6_S16384_d1 h_S_ (ix1 r)).2 = Draw.best fun c => v (ix2 r c) := by
  rw [Ideal.argReduce_eq_reduce2, Host.reduce2_eq_foldl_fiber, Host.argReduceFiber, row_places, List.map_map, ← search_eq]
  have e : ((fun n => (v (S16384x6.rowMajor.symm n), iotaInDim S16384x6 32 1 (S16384x6.rowMajor.symm n))) ∘ place r)
      = fun c : Fin 6 => (v (ix2 r c), BitVec.ofNat 32 c.val) := by
    funext c
    simp only [Function.comp, symm_place]
    rfl
  rw [e]
  rfl

end Cert.ReferenceIdeal.Own
end
-- ==== Proof.RefValue.lean ====
module

public import proofs.«01_k».proof.Proof.RefKeep
public import proofs.«01_k».proof.Proof.Rows
public import Idealize.ShloMosaic.Lib.StableHlo.ReadAt
public import proofs.«01_k».proof.Proof.RefSearch
public import Idealize.ShloMosaic.Lib.Pointwise

@[expose] public section
noncomputable section

/-! What each stretch of the reference's operations computes, entry by entry. -/

namespace Cert.ReferenceIdeal.Own

open Idealize.ShloMosaic Idealize.SL.Sem Idealize.ShloMosaic.StableHlo Cert.ReferenceIdeal
open Facts₀

variable [Facts]

local notation "𝕍" => Vals Ideal

/-- The tensors of the reference by name, as typed buffers. -/
abbrev x0 : TRef sig ⟨S16384x100, .f32⟩ := .of main_arg0
abbrev w0 : TRef sig ⟨S6x100, .f32⟩ := .of main_arg1
abbrev b0 : TRef sig ⟨S6, .f32⟩ := .of main_arg2
abbrev z0 : TRef sig ⟨S16384x6, .f32⟩ := .of main_v4
abbrev p0 : TRef sig ⟨S16384x6, .f32⟩ := .of main_v15
abbrev l0 : TRef sig ⟨S16384x6, .f32⟩ := .of main_v16

/-- One row of an array of logits. -/
def row (v : (⟨S16384x6, .f32⟩ : BufTy).Contents (Elt Ideal)) (r : Fin 16384) : Draw.Row := fun c => v (ix2 r c)

/-- A logit is the product of a row of the input and a row of weights, plus the class's bias. -/
theorem logit_at (V : 𝕍) (r : Fin 16384) (c : Fin 6) :
    rd (after logitOps V) z0 (ix2 r c)
      = (∑ k : Fin 100, rd V x0 (ix2 r k) * rd V w0 (ix2 c k)) + rd V b0 (ix1 c) := by
  unfold rd
  after_reads_at

/-- The reference's row maximum, read off the buffer: the greatest entry of the row. -/
theorem peak_eq (v : (⟨S16384x6, .f32⟩ : BufTy).Contents (Elt Ideal)) (r : Fin 16384) :
    max (Ideal.ofBits .f32 0xFF800000#32) (Finset.univ.fold max (Ideal.ofBits .f32 0xFF800000#32) fun x : Fin 6 => v (ix2 r x))
      = Draw.peak (row v r) := max_eq_right (Draw.le_peak (row v r))

/-- The softmax of a row. -/
theorem prob_at (V : 𝕍) (r : Fin 16384) (c : Fin 6) :
    rd (after probOps V) p0 (ix2 r c) = Draw.prob (row (rd V z0) r) c := by
  unfold rd
  after_reads_at
  simp only [peak_eq]
  rfl

/-- The log-softmax of a row. -/
theorem logProb_at (V : 𝕍) (r : Fin 16384) (c : Fin 6) :
    rd (after (logSoftmaxOps (.of main_v4) main_call0) V) l0 (ix2 r c) = Draw.logProb (row (rd V z0) r) c := by
  unfold rd
  after_reads_at
  simp only [peak_eq]
  rfl

/-- The key's two words. -/
abbrev key : TRef sig ⟨S2, .i32⟩ := .of main_v23
/-- The buffers of the uniform draw. -/
abbrev ubufs : fn_uniform.Bufs := main_call1.call0

/-- The key of seed 42 is the words 0 and 42. -/
theorem key_at (V : 𝕍) : rd (after keyOps V) key (ix1 0) = 0#32 ∧ rd (after keyOps V) key (ix1 1) = 42#32 := by
  constructor
  · unfold rd
    after_reads_at
    after_reads_at
    decide
  · unfold rd
    after_reads_at
    after_reads_at
    decide

/-- The entry's number, counted in 64-bit words: it is below 98304, so nothing wraps. -/
theorem number (r : Fin 16384) (c : Fin 6) :
    IntOp.addi (IntOp.muli 6#64 (BitVec.ofNat 64 r.val)) (IntOp.muli 1#64 (BitVec.ofNat 64 c.val)) = BitVec.ofNat 64 (6 * r.val + c.val) := by
  simp only [IntOp.addi, IntOp.muli, BitVec.one_mul, BitVec.ofNat_add, BitVec.ofNat_mul]

/-- The lower word of an entry's number. -/
theorem count_at (V : 𝕍) (r : Fin 16384) (c : Fin 6) :
    rd (after (countOps key main_call1 main_call1.cst main_call1.cst_0 ubufs) V) ubufs.v16 (ix2 r c) = BitVec.ofNat 32 (6 * r.val + c.val) := by
  unfold rd
  after_reads_at
  rw [number, BitVec.setWidth_ofNat_of_le (by decide)]

/-- The upper word of an entry's number is zero. -/
theorem high_at (V : 𝕍) (r : Fin 16384) (c : Fin 6) :
    rd (after (countOps key main_call1 main_call1.cst main_call1.cst_0 ubufs) V) ubufs.v17 (ix2 r c) = 0#32 := by
  unfold rd
  after_reads_at
  rw [number]
  have h : 6 * r.val + c.val < 2 ^ 32 := by omega
  apply BitVec.eq_of_toNat_eq
  simp [IntOp.shrui, BitVec.toNat_setWidth, Nat.shiftRight_eq_div_pow]
  rw [Nat.mod_eq_of_lt (by omega : 6 * r.val + c.val < 18446744073709551616), Nat.div_eq_of_lt (b := 4294967296) h,
    Nat.zero_mod]

/-- The first key word, read out. -/
theorem key₀_at (V : 𝕍) (i) :
    rd (after (countOps key main_call1 main_call1.cst main_call1.cst_0 ubufs) V) ubufs.v4 i = rd V key (ix1 0) := by
  unfold rd
  after_reads_at

/-- The second key word, read out. -/
theorem key₁_at (V : 𝕍) (i) :
    rd (after (countOps key main_call1 main_call1.cst main_call1.cst_0 ubufs) V) ubufs.v6 i = rd V key (ix1 1) := by
  unfold rd
  after_reads_at

/-- The lower end of the uniform draw, the least normal float. -/
theorem low_at (V : 𝕍) (i) :
    rd (after (countOps key main_call1 main_call1.cst main_call1.cst_0 ubufs) V) ubufs.v1 i = Ideal.ofBits .f32 0x00800000#32 := by
  unfold rd
  after_reads_at

/-- The upper end of the uniform draw, one. -/
theorem one_at (V : 𝕍) (i) :
    rd (after (countOps key main_call1 main_call1.cst main_call1.cst_0 ubufs) V) ubufs.v2 i = Ideal.ofBits .f32 0x3F800000#32 := by
  unfold rd
  after_reads_at
  exact Ideal.ofBits_one_f32

/-- The uniform number of an entry, made of the two words of the hash combined. -/
theorem uniform_at (V : 𝕍) (r : Fin 16384) (c : Fin 6)
    (hl : ∀ i, rd V ubufs.v1 i = Ideal.ofBits .f32 0x00800000#32) (ho : ∀ i, rd V ubufs.v2 i = Ideal.ofBits .f32 0x3F800000#32) :
    rd (after (uniformOps ubufs) V) ubufs.v33 (ix2 r c) = Draw.uniform (rd V hbufs.v171 (ix2 r c) ^^^ rd V hbufs.v175 (ix2 r c)) := by
  have hl' : V (Proc.devRef .tc main_call1_call0_v1) (ix2 0 0) = Ideal.ofBits .f32 0x00800000#32 := hl (ix2 0 0)
  have ho' : V (Proc.devRef .tc main_call1_call0_v2) (ix2 0 0) = Ideal.ofBits .f32 0x3F800000#32 := ho (ix2 0 0)
  unfold rd
  after_reads_at
  rw [hl', ho', ← Ideal.ofBits_one_f32]
  rfl

/-- The noise is minus the logarithm of minus the logarithm of the uniform number. -/
theorem noise_at (V : 𝕍) (r : Fin 16384) (c : Fin 6) :
    rd (after (noiseOps main_call1) V) main_call1.v4 (ix2 r c) = - Ideal.log (- Ideal.log (rd V ubufs.v33 (ix2 r c))) := by
  unfold rd
  after_reads_at

/-- The noise, the scores, the index drawn, and the three results, as typed buffers. -/
abbrev g0 : TRef sig ⟨S16384x6, .f32⟩ := .of main_v24
abbrev s0 : TRef sig ⟨S16384x6, .f32⟩ := .of main_v25
abbrev i0 : TRef sig ⟨S16384, .i32⟩ := .of main_v26
abbrev a0 : TRef sig ⟨S16384x6, .f32⟩ := .of main_v27
abbrev e0 : TRef sig ⟨S16384, .f32⟩ := .of main_v29
abbrev h0 : TRef sig ⟨S_, .f32⟩ := .of main_v36

/-- A score is the logit plus the noise. -/
theorem score_at (V : 𝕍) (r : Fin 16384) (c : Fin 6) :
    rd (after scoreOps V) s0 (ix2 r c) = rd V z0 (ix2 r c) + rd V g0 (ix2 r c) := by
  unfold rd
  after_reads_at
  exact add_comm _ _

/-- The index drawn is the first class of greatest score. -/
theorem argmax_at (V : 𝕍) (r : Fin 16384) :
    rd (after (argmaxOps s0 main_call2) V) i0 (ix1 r) = Draw.best (row (rd V s0) r) := by
  unfold rd
  after_reads_at
  exact argReduce_at _ r

/-- The one-hot row is one at the index drawn and zero elsewhere. -/
theorem oneHot_at (V : 𝕍) (r : Fin 16384) (c : Fin 6) :
    rd (after (oneHotOps i0 main_call3) V) a0 (ix2 r c) = if BitVec.ofNat 32 c.val = rd V i0 (ix1 r) then 1 else 0 := by
  unfold rd
  after_reads_at
  simp only [IntOp.cmpi, eq_comm (a := BitVec.ofNat 32 c.val)]
  split <;> simp_all [FloatOps.uitofp]

/-- The eligibility is the one-hot row against the log-probabilities. -/
theorem elig_at (V : 𝕍) (r : Fin 16384) :
    rd (after resultOps V) e0 (ix1 r) = ∑ c : Fin 6, rd V a0 (ix2 r c) * rd V l0 (ix2 r c) := by
  unfold rd
  after_reads_at

/-- The entropy: the sum over rows and classes, each probability first increased by the small constant. -/
theorem ent_at (V : 𝕍) (i) :
    rd (after resultOps V) h0 i = ∑ r : Fin 16384, ∑ c : Fin 6,
      (-(rd V p0 (ix2 r c) + Ideal.ofBits .f32 0x322BCC77#32)) * Ideal.log (rd V p0 (ix2 r c) + Ideal.ofBits .f32 0x322BCC77#32) := by
  unfold rd
  after_reads_at

end Cert.ReferenceIdeal.Own
end
-- ==== Proof.RefRun.lean ====
module

public import proofs.«01_k».proof.Proof.RefKeep

@[expose] public section
noncomputable section

namespace Cert.ReferenceIdeal.Own

open Idealize.ShloMosaic Idealize.SL.Sem Idealize.ShloMosaic.StableHlo Cert.ReferenceIdeal
open Facts₀

variable {F : FTy → Type} [FloatOps F] [Facts]

/-- The reference runs, and ends with each buffer holding what its operation list leaves there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_hlo _ _ main_seq (by decide) (by decide)
    (by
      delta ops logitOps probOps logSoftmaxOps keyOps countOps threefry head round inject uniformOps noiseOps scoreOps argmaxOps oneHotOps resultOps
      simp)
    (by
      delta ops logitOps probOps logSoftmaxOps keyOps countOps threefry head round inject uniformOps noiseOps scoreOps argmaxOps oneHotOps resultOps
      simp only [List.cons_append, List.nil_append]
      intro _ h
      (repeat (cases h with | head => rfl | tail _ h => ?_))
      exact nomatch h) m ρ

/-- No operation of the reference writes to an argument. -/
theorem from_ops : From 3 (ops (F := F)) :=
  from_append (from_append (from_append (from_append (from_append (from_append (from_append (from_append (from_append (from_append (from_append
    from_logit (from_mono (by decide) from_prob)) (from_mono (by decide) from_logSoftmax)) (from_mono (by decide) from_key))
    (from_mono (by decide) from_count)) (from_mono (by decide) from_hash)) (from_mono (by decide) from_uniform))
    (from_mono (by decide) from_noise)) (from_mono (by decide) from_score)) (from_mono (by decide) from_argmax))
    (from_mono (by decide) from_oneHot)) (from_mono (by decide) from_result)

/-- No operation of the reference writes an argument. -/
theorem args (V : Vals F) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) :=
  ⟨keep from_ops V main_arg0 (by decide), keep from_ops V main_arg1 (by decide), keep from_ops V main_arg2 (by decide)⟩

end Cert.ReferenceIdeal.Own
end
-- ==== Proof.RefTotal.lean ====
module

public import proofs.«01_k».proof.Proof.RefValue
public import proofs.«01_k».proof.Proof.RefRun

@[expose] public section
noncomputable section

/-! What the reference's three results are, entry by entry, in terms of its arguments. -/

namespace Cert.ReferenceIdeal.Own

open Idealize.ShloMosaic Idealize.SL.Sem Idealize.ShloMosaic.StableHlo Cert.ReferenceIdeal

variable [Facts]

/-- A tensor an operation list does not reach reads as before it. -/
theorem rd_keep {n : ℕ} {l : List (Op Ideal)} (h : From n l) (V : Vals Ideal) {β : BufTy} (t : TRef sig β) (ht : t.ref.idx.val < n) :
    rd (after l V) t = rd V t := by
  unfold rd
  rw [keep h V t.ref ht]

/-- A row of logits: the row of the first argument against each row of the second, plus the third. -/
def logits (V : Vals Ideal) (r : Fin 16384) : Draw.Row := fun c =>
  (∑ k : Fin 100, rd V x0 (ix2 r k) * rd V w0 (ix2 c k)) + rd V b0 (ix1 c)

/-- What holds for every row and class holds for every entry. -/
theorem at_ix2 {P : S16384x6.Idx → Prop} (h : ∀ r c, P (ix2 r c)) (i : S16384x6.Idx) : P i := by
  idx_vars i
  exact h _ _

/-- The stretch that counts the entries, on the reference's own buffers. -/
abbrev countOf : List (Op Ideal) := countOps key main_call1 main_call1.cst main_call1.cst_0 ubufs

/-- The noise, from the counting and the hash on. -/
theorem noise_total (V : Vals Ideal) (r : Fin 16384) (c : Fin 6)
    (hk₀ : rd V key (ix1 0) = 0#32) (hk₁ : rd V key (ix1 1) = 42#32) :
    rd (after (noiseOps main_call1) (after (uniformOps ubufs) (after hashOps (after countOf V)))) g0 (ix2 r c)
      = Draw.noise (BitVec.ofNat 32 (6 * r.val + c.val)) := by
  have hh := holds_hash (V := after countOf V) (a := 0#32) (b := 42#32)
    (g := fun i => (0#32, BitVec.ofNat 32 (6 * (i 0).val + (i 1).val)))
    (at_ix2 fun r c => high_at V r c) (at_ix2 fun r c => count_at V r c)
    (fun i => (key₀_at V i).trans hk₀) (fun i => (key₁_at V i).trans hk₁)
  rw [show g0 = main_call1.v4 from rfl, noise_at, uniform_at]
  · rw [hh.fst, hh.snd]
    rfl
  · intro i
    rw [rd_keep from_hash _ _ (by decide), low_at]
  · intro i
    rw [rd_keep from_hash _ _ (by decide), one_at]

variable (V : Vals Ideal)

/-- The contents after the first stretch of operations, and so on below, each after the one before. -/
abbrev V1 := after logitOps V
abbrev V2 := after probOps (V1 V)
abbrev V3 := after (logSoftmaxOps (.of main_v4) main_call0) (V2 V)
abbrev V4 := after keyOps (V3 V)
abbrev V5 := after countOf (V4 V)
abbrev V6 := after hashOps (V5 V)
abbrev V7 := after (uniformOps ubufs) (V6 V)
abbrev V8 := after (noiseOps main_call1) (V7 V)
abbrev V9 := after scoreOps (V8 V)
abbrev V10 := after (argmaxOps s0 main_call2) (V9 V)
abbrev V11 := after (oneHotOps i0 main_call3) (V10 V)

/-- The whole reference is its last stretch on what the others leave. -/
theorem ops_split : after ops V = after resultOps (V11 V) := by
  unfold ops
  simp only [after_append]

/-- The rows of the logits' buffer are the logits. -/
theorem row_logits (r : Fin 16384) : row (rd (V1 V) z0) r = logits V r := funext fun c => logit_at V r c

/-- Before the last stretch: the probabilities. -/
theorem prob_total (r : Fin 16384) (c : Fin 6) : rd (V11 V) p0 (ix2 r c) = Draw.prob (logits V r) c := by
  rw [rd_keep from_oneHot _ _ (by decide), rd_keep from_argmax _ _ (by decide), rd_keep from_score _ _ (by decide),
    rd_keep from_noise _ _ (by decide), rd_keep from_uniform _ _ (by decide), rd_keep from_hash _ _ (by decide),
    rd_keep from_count _ _ (by decide), rd_keep from_key _ _ (by decide), rd_keep from_logSoftmax _ _ (by decide),
    prob_at, row_logits]

/-- Before the last stretch: the log-probabilities. -/
theorem logProb_total (r : Fin 16384) (c : Fin 6) : rd (V11 V) l0 (ix2 r c) = Draw.logProb (logits V r) c := by
  rw [rd_keep from_oneHot _ _ (by decide), rd_keep from_argmax _ _ (by decide), rd_keep from_score _ _ (by decide),
    rd_keep from_noise _ _ (by decide), rd_keep from_uniform _ _ (by decide), rd_keep from_hash _ _ (by decide),
    rd_keep from_count _ _ (by decide), rd_keep from_key _ _ (by decide), logProb_at,
    rd_keep from_prob _ _ (by decide), row_logits]

/-- The scores, row by row. -/
theorem score_total (r : Fin 16384) : row (rd (V9 V) s0) r = Draw.score (logits V r) r.val := by
  funext c
  show rd (V9 V) s0 (ix2 r c) = _
  rw [score_at, noise_total _ r c (key_at _).1 (key_at _).2,
    rd_keep from_noise _ _ (by decide), rd_keep from_uniform _ _ (by decide), rd_keep from_hash _ _ (by decide),
    rd_keep from_count _ _ (by decide), rd_keep from_key _ _ (by decide), rd_keep from_logSoftmax _ _ (by decide),
    rd_keep from_prob _ _ (by decide)]
  exact congrArg (· + _) (congrFun (row_logits V r) c)

/-- Before the last stretch: the one-hot rows. -/
theorem oneHot_total (r : Fin 16384) (c : Fin 6) :
    rd (V11 V) a0 (ix2 r c) = Draw.oneHot (Draw.score (logits V r) r.val) c := by
  rw [oneHot_at, argmax_at, score_total]
  rfl

/-- The drawn classes. -/
theorem value_oneHot (r : Fin 16384) (c : Fin 6) :
    rd (after ops V) a0 (ix2 r c) = Draw.oneHot (Draw.score (logits V r) r.val) c := by
  rw [ops_split, rd_keep from_result _ _ (by decide), oneHot_total]

/-- The log-probabilities of the drawn classes. -/
theorem value_elig (r : Fin 16384) : rd (after ops V) e0 (ix1 r) = Draw.elig (logits V r) r.val := by
  rw [ops_split, elig_at]
  exact Finset.sum_congr rfl fun c _ => by rw [oneHot_total, logProb_total]

/-- The entropy. -/
theorem value_ent (i) : rd (after ops V) h0 i = ∑ r : Fin 16384, Draw.ent (logits V r) := by
  rw [ops_split, ent_at]
  refine Finset.sum_congr rfl fun r _ => Finset.sum_congr rfl fun c _ => ?_
  rw [prob_total]

end Cert.ReferenceIdeal.Own
end
-- ==== Proof.Agree.lean ====
module

public import proofs.«01_k».proof.Proof.KerRun
public import proofs.«01_k».proof.Proof.RefTotal

@[expose] public section
noncomputable section

/-! The reference, from equal arguments, ends with the kernel's three results. -/

namespace Cert.Agree

open Idealize.ShloMosaic Idealize.ShloMosaic.TcCoe Idealize.ShloMosaic.StableHlo Idealize.SL.Sem Cert.ReferenceIdeal Cert.ReferenceIdeal.Own

variable (m : (ℓ : Loc Cert.KernelIdeal.nD Cert.KernelIdeal.τ Cert.KernelIdeal.sig) → Buf (Elt Ideal) ℓ)
  (m' : (ℓ : Loc nD τ sig) → Buf (Elt Ideal) ℓ) (c : Dev nD)

/-- The two memories hold the same arguments. -/
def Same : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)

variable [Facts] (h : Same m m' c)
include h

/-- From equal arguments both programs work on the same logits. -/
theorem logits_eq (r : Fin 16384) : logits (launchContents m' c) r = Cert.KernelIdeal.Own.logits m c r := by
  funext o
  have hx : (rd (launchContents m' c) x0 : Vec Ideal S16384x100 .f32) = m ((c.tc : Thread Cert.KernelIdeal.nD Cert.KernelIdeal.τ).loc Cert.KernelIdeal.main_arg0) := h.1
  have hw : (rd (launchContents m' c) w0 : Vec Ideal S6x100 .f32) = m ((c.tc : Thread Cert.KernelIdeal.nD Cert.KernelIdeal.τ).loc Cert.KernelIdeal.main_arg1) := h.2.1
  have hb : (rd (launchContents m' c) b0 : Vec Ideal S6 .f32) = m ((c.tc : Thread Cert.KernelIdeal.nD Cert.KernelIdeal.τ).loc Cert.KernelIdeal.main_arg2) := h.2.2
  unfold logits Cert.KernelIdeal.Own.logits
  rw [hx, hw, hb]

/-- The reference's first result, the log-probability of each row's class, is the kernel's. -/
theorem elig_eq : after ops (launchContents m' c) (Proc.devRef .tc main_v29) = Cert.KernelIdeal.Own.eligsOut m c := by
  funext i
  idx_vars i
  refine (value_elig (launchContents m' c) _).trans ?_
  rw [logits_eq m m' c h]
  rfl

/-- The reference's second result, the one-hot row of each row's class, is the kernel's. -/
theorem oneHot_eq : after ops (launchContents m' c) (Proc.devRef .tc main_v27) = Cert.KernelIdeal.Own.hotsOut m c := by
  funext i
  idx_vars i
  refine (value_oneHot (launchContents m' c) _ _).trans ?_
  rw [logits_eq m m' c h]
  rfl

/-- The reference's third result, the entropy of the batch, is the kernel's. -/
theorem ent_eq : after ops (launchContents m' c) (Proc.devRef .tc main_v36) = Cert.KernelIdeal.Own.entOut m c := by
  funext i
  refine (value_ent (launchContents m' c) i).trans ?_
  simp only [logits_eq m m' c h]
  rfl

end Cert.Agree
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Agree
public import proofs.«01_k».proof.Proof.RefRun
public import Idealize.ShloMosaic.Lib.Quiescent

@[expose] public section

noncomputable section

namespace Cert.Proof

open Idealize.ShloMosaic Idealize.SL.Sem

/-- The kernel under the bits of its floats ends, its arguments unchanged and every counter at zero. -/
theorem frame_kernel : Cert.quiescent_Kernel (hKernel := Cert.Kernel.Gen.facts) :=
  fun m ρ _ => Cert.Kernel.Gen.frame m ρ

/-- The same of the kernel over the extended reals. -/
theorem frame_ideal : Cert.quiescent_KernelIdeal (hKernelIdeal := Cert.KernelIdeal.Gen.facts) :=
  fun m ρ _ => Cert.KernelIdeal.Gen.frame m ρ

/-- The reference ends as its operations in order leave the memory. -/
theorem frame_reference : Cert.quiescent_ReferenceIdeal (hReferenceIdeal := Cert.ReferenceIdeal.Gen.facts) := fun m ρ _ =>
  (θ_run Cert.ReferenceIdeal.defs _ _).mono
    (fun r h => ⟨fun c =>
      have k := Cert.ReferenceIdeal.Own.args (StableHlo.launchContents m c)
      ⟨(h c _).trans k.1, (h c _).trans k.2.1, (h c _).trans k.2.2⟩, sem_eq_zero_of_no_sems (by decide) r.2⟩)
    (Cert.ReferenceIdeal.Own.run m ρ)

/-- Over the extended reals the kernel and the reference end with equal results. -/
theorem algebraic : Cert.algebraic_KernelIdeal_ReferenceIdeal
    (hKernelIdeal := Cert.KernelIdeal.Gen.facts) (hReferenceIdeal := Cert.ReferenceIdeal.Gen.facts) :=
  fun m g m' g' _ same =>
  ⟨Cert.KernelIdeal.Own.eligsOut m, Cert.KernelIdeal.Own.hotsOut m, Cert.KernelIdeal.Own.entOut m,
    Cert.KernelIdeal.Own.run m g,
    (θ_run Cert.ReferenceIdeal.defs _ _).mono
      (fun _ h c =>
        have k := Cert.ReferenceIdeal.Own.args (StableHlo.launchContents m' c)
        ⟨(h c _).trans (Cert.Agree.elig_eq m m' c (same c)), (h c _).trans (Cert.Agree.oneHot_eq m m' c (same c)),
          (h c _).trans (Cert.Agree.ent_eq m m' c (same c)), (h c _).trans k.1, (h c _).trans k.2.1, (h c _).trans k.2.2⟩)
      (Cert.ReferenceIdeal.Own.run m' g')⟩

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
